-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S2x256x512 : Shape := ⟨3, ![2, 256, 512]⟩
abbrev S15x256x512 : Shape := ⟨3, ![15, 256, 512]⟩
abbrev S15 : Shape := ⟨1, ![15]⟩
abbrev S256x512 : Shape := ⟨2, ![256, 512]⟩
abbrev S256x256 : Shape := ⟨2, ![256, 256]⟩
abbrev S1x256x512 : Shape := ⟨3, ![1, 256, 512]⟩
abbrev S_ : Shape := ⟨0, ![]⟩

abbrev nBuf : Space → Nat
  | .hbm => 5
  | .vmem => 11
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .fp8e5m2⟩
  | .local _ .vmem, ⟨2, _⟩ => ⟨S256x2048, .f32⟩
  | .local _ .vmem, ⟨3, _⟩ => ⟨S2x256x512, .bf16⟩
  | .local _ .vmem, ⟨4, _⟩ => ⟨S2x256x512, .bf16⟩
  | .local _ .vmem, ⟨5, _⟩ => ⟨S2x256x512, .bf16⟩
  | .local _ .vmem, ⟨6, _⟩ => ⟨S2x256x512, .bf16⟩
  | .local _ .vmem, ⟨7, _⟩ => ⟨S15x256x512, .bf16⟩
  | .local _ .vmem, ⟨8, _⟩ => ⟨S15x256x512, .bf16⟩
  | .local _ .vmem, ⟨9, _⟩ => ⟨S15x256x512, .bf16⟩
  | .local _ .vmem, ⟨10, _⟩ => ⟨S15x256x512, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 1 → Bool
  | ⟨0, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 1 125 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v20 : BitVec 32 := Scalar.addi v2 c32_i32
  let v21 : BitVec 32 := Scalar.addi v20 c15_i32
  let c16_i32_9 : BitVec 32 := 16#32
  let v22 : BitVec 32 := Scalar.remsi v21 c16_i32_9
  let c256_i32 : BitVec 32 := 256#32
  let v23 : BitVec 32 := Scalar.muli v22 c256_i32
  let v24 : Index := Scalar.indexCast v23
  let c0_10 : Index := 0#32
  ![v24.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_32 : BitVec 32 := 1#32
  let v57 : BitVec 32 := Scalar.muli v5 c1_i32_32
  let v58 : BitVec 32 := Scalar.addi c0_i32 v57
  v58.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_34 : BitVec 32 := 1#32
  let v59 : BitVec 32 := Scalar.muli v7 c1_i32_34
  let v60 : BitVec 32 := Scalar.addi c0_i32_35 v59
  v60.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_40 : BitVec 32 := 1#32
  let v61 : BitVec 32 := Scalar.muli v7 c1_i32_40
  let v62 : BitVec 32 := Scalar.addi c0_i32_41 v61
  v62.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_50 : BitVec 32 := 1#32
  let v71 : BitVec 32 := Scalar.muli v7 c1_i32_50
  let v72 : BitVec 32 := Scalar.addi c0_i32_51 v71
  v72.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_60 : BitVec 32 := 1#32
  let v81 : BitVec 32 := Scalar.muli v5 c1_i32_60
  let v82 : BitVec 32 := Scalar.addi c0_i32_61 v81
  v82.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_70 : BitVec 32 := 1#32
  let v91 : BitVec 32 := Scalar.muli v5 c1_i32_70
  let v92 : BitVec 32 := Scalar.addi c0_i32_71 v91
  v92.toNat
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_110 : BitVec 32 := 1#32
  let v140 : BitVec 32 := Scalar.muli v7 c1_i32_110
  let v141 : BitVec 32 := Scalar.addi c0_i32_111 v140
  v141.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_136 : BitVec 32 := 1#32
  let v166 : BitVec 32 := Scalar.muli v5 c1_i32_136
  let v167 : BitVec 32 := Scalar.addi c0_i32_137 v166
  v167.toNat
def k0_dev9 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_162 : BitVec 32 := 1#32
  let v192 : BitVec 32 := Scalar.muli v7 c1_i32_162
  let v193 : BitVec 32 := Scalar.addi c0_i32_163 v192
  v193.toNat
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_188 : BitVec 32 := 1#32
  let v218 : BitVec 32 := Scalar.muli v5 c1_i32_188
  let v219 : BitVec 32 := Scalar.addi c0_i32_189 v218
  v219.toNat
def k0_dev11 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_235 : BitVec 32 := 1#32
  let v270 : BitVec 32 := Scalar.muli v7 c1_i32_235
  let v271 : BitVec 32 := Scalar.addi c0_i32_236 v270
  v271.toNat
def k0_dev12 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_270 : BitVec 32 := 1#32
  let v302 : BitVec 32 := Scalar.muli v5 c1_i32_270
  let v303 : BitVec 32 := Scalar.addi c0_i32_271 v302
  v303.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_305 : BitVec 32 := 1#32
  let v334 : BitVec 32 := Scalar.muli v7 c1_i32_305
  let v335 : BitVec 32 := Scalar.addi c0_i32_306 v334
  v335.toNat
def k0_dev14 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_340 : BitVec 32 := 1#32
  let v366 : BitVec 32 := Scalar.muli v5 c1_i32_340
  let v367 : BitVec 32 := Scalar.addi c0_i32_341 v366
  v367.toNat
def k0_dev15 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_386 : BitVec 32 := 1#32
  let v418 : BitVec 32 := Scalar.muli v7 c1_i32_386
  let v419 : BitVec 32 := Scalar.addi c0_i32_387 v418
  v419.toNat
def k0_dev16 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_421 : BitVec 32 := 1#32
  let v450 : BitVec 32 := Scalar.muli v5 c1_i32_421
  let v451 : BitVec 32 := Scalar.addi c0_i32_422 v450
  v451.toNat
def k0_dev17 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_456 : BitVec 32 := 1#32
  let v482 : BitVec 32 := Scalar.muli v7 c1_i32_456
  let v483 : BitVec 32 := Scalar.addi c0_i32_457 v482
  v483.toNat
def k0_dev18 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_491 : BitVec 32 := 1#32
  let v514 : BitVec 32 := Scalar.muli v5 c1_i32_491
  let v515 : BitVec 32 := Scalar.addi c0_i32_492 v514
  v515.toNat
def k0_dev19 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_537 : BitVec 32 := 1#32
  let v566 : BitVec 32 := Scalar.muli v7 c1_i32_537
  let v567 : BitVec 32 := Scalar.addi c0_i32_538 v566
  v567.toNat
def k0_dev20 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_572 : BitVec 32 := 1#32
  let v598 : BitVec 32 := Scalar.muli v5 c1_i32_572
  let v599 : BitVec 32 := Scalar.addi c0_i32_573 v598
  v599.toNat
def k0_dev21 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_607 : BitVec 32 := 1#32
  let v630 : BitVec 32 := Scalar.muli v7 c1_i32_607
  let v631 : BitVec 32 := Scalar.addi c0_i32_608 v630
  v631.toNat
def k0_dev22 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_642 : BitVec 32 := 1#32
  let v662 : BitVec 32 := Scalar.muli v5 c1_i32_642
  let v663 : BitVec 32 := Scalar.addi c0_i32_643 v662
  v663.toNat
def k0_dev23 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_688 : BitVec 32 := 1#32
  let v714 : BitVec 32 := Scalar.muli v7 c1_i32_688
  let v715 : BitVec 32 := Scalar.addi c0_i32_689 v714
  v715.toNat
def k0_dev24 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_723 : BitVec 32 := 1#32
  let v746 : BitVec 32 := Scalar.muli v5 c1_i32_723
  let v747 : BitVec 32 := Scalar.addi c0_i32_724 v746
  v747.toNat
def k0_dev25 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_758 : BitVec 32 := 1#32
  let v778 : BitVec 32 := Scalar.muli v7 c1_i32_758
  let v779 : BitVec 32 := Scalar.addi c0_i32_759 v778
  v779.toNat
def k0_dev26 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_793 : BitVec 32 := 1#32
  let v810 : BitVec 32 := Scalar.muli v5 c1_i32_793
  let v811 : BitVec 32 := Scalar.addi c0_i32_794 v810
  v811.toNat
def k0_dev27 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_839 : BitVec 32 := 1#32
  let v862 : BitVec 32 := Scalar.muli v7 c1_i32_839
  let v863 : BitVec 32 := Scalar.addi c0_i32_840 v862
  v863.toNat
def k0_dev28 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_874 : BitVec 32 := 1#32
  let v894 : BitVec 32 := Scalar.muli v5 c1_i32_874
  let v895 : BitVec 32 := Scalar.addi c0_i32_875 v894
  v895.toNat
def k0_dev29 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_909 : BitVec 32 := 1#32
  let v926 : BitVec 32 := Scalar.muli v7 c1_i32_909
  let v927 : BitVec 32 := Scalar.addi c0_i32_910 v926
  v927.toNat
def k0_dev30 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_944 : BitVec 32 := 1#32
  let v958 : BitVec 32 := Scalar.muli v5 c1_i32_944
  let v959 : BitVec 32 := Scalar.addi c0_i32_945 v958
  v959.toNat
def k0_dev31 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_991 : BitVec 32 := 1#32
  let v1010 : BitVec 32 := Scalar.muli v7 c1_i32_991
  let v1011 : BitVec 32 := Scalar.addi c0_i32_992 v1010
  v1011.toNat
def k0_dev32 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1026 : BitVec 32 := 1#32
  let v1042 : BitVec 32 := Scalar.muli v5 c1_i32_1026
  let v1043 : BitVec 32 := Scalar.addi c0_i32_1027 v1042
  v1043.toNat
def k0_dev33 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1061 : BitVec 32 := 1#32
  let v1074 : BitVec 32 := Scalar.muli v7 c1_i32_1061
  let v1075 : BitVec 32 := Scalar.addi c0_i32_1062 v1074
  v1075.toNat
def k0_dev34 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1096 : BitVec 32 := 1#32
  let v1106 : BitVec 32 := Scalar.muli v5 c1_i32_1096
  let v1107 : BitVec 32 := Scalar.addi c0_i32_1097 v1106
  v1107.toNat
def k0_dev35 (d0 : Dev nD) : Nat :=
  let c0_i32_1145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1144 : BitVec 32 := 1#32
  let v1158 : BitVec 32 := Scalar.muli v7 c1_i32_1144
  let v1159 : BitVec 32 := Scalar.addi c0_i32_1145 v1158
  v1159.toNat
def k0_dev36 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1179 : BitVec 32 := 1#32
  let v1190 : BitVec 32 := Scalar.muli v5 c1_i32_1179
  let v1191 : BitVec 32 := Scalar.addi c0_i32_1180 v1190
  v1191.toNat
def k0_dev37 (d0 : Dev nD) : Nat :=
  let c0_i32_1215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1214 : BitVec 32 := 1#32
  let v1222 : BitVec 32 := Scalar.muli v7 c1_i32_1214
  let v1223 : BitVec 32 := Scalar.addi c0_i32_1215 v1222
  v1223.toNat
def k0_dev38 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1249 : BitVec 32 := 1#32
  let v1254 : BitVec 32 := Scalar.muli v5 c1_i32_1249
  let v1255 : BitVec 32 := Scalar.addi c0_i32_1250 v1254
  v1255.toNat
def k0_dev39 (d0 : Dev nD) : Nat :=
  let c0_i32_1298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1297 : BitVec 32 := 1#32
  let v1306 : BitVec 32 := Scalar.muli v7 c1_i32_1297
  let v1307 : BitVec 32 := Scalar.addi c0_i32_1298 v1306
  v1307.toNat
def k0_dev40 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1332 : BitVec 32 := 1#32
  let v1338 : BitVec 32 := Scalar.muli v5 c1_i32_1332
  let v1339 : BitVec 32 := Scalar.addi c0_i32_1333 v1338
  v1339.toNat
def k0_dev41 (d0 : Dev nD) : Nat :=
  let c0_i32_1368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1367 : BitVec 32 := 1#32
  let v1370 : BitVec 32 := Scalar.muli v7 c1_i32_1367
  let v1371 : BitVec 32 := Scalar.addi c0_i32_1368 v1370
  v1371.toNat
def k0_dev42 (d0 : Dev nD) : Nat :=
  let c0_i32_1403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1402 : BitVec 32 := 1#32
  let v1402 : BitVec 32 := Scalar.muli v5 c1_i32_1402
  let v1403 : BitVec 32 := Scalar.addi c0_i32_1403 v1402
  v1403.toNat
def k0_dev43 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1450 : BitVec 32 := 1#32
  let v1454 : BitVec 32 := Scalar.muli v7 c1_i32_1450
  let v1455 : BitVec 32 := Scalar.addi c0_i32_1451 v1454
  v1455.toNat
def k0_dev44 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1485 : BitVec 32 := 1#32
  let v1486 : BitVec 32 := Scalar.muli v5 c1_i32_1485
  let v1487 : BitVec 32 := Scalar.addi c0_i32_1486 v1486
  v1487.toNat
def k0_dev45 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1520 : BitVec 32 := 1#32
  let v1518 : BitVec 32 := Scalar.muli v7 c1_i32_1520
  let v1519 : BitVec 32 := Scalar.addi c0_i32_1521 v1518
  v1519.toNat
def k0_dev46 (d0 : Dev nD) : Nat :=
  let c0_i32_1556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1555 : BitVec 32 := 1#32
  let v1550 : BitVec 32 := Scalar.muli v5 c1_i32_1555
  let v1551 : BitVec 32 := Scalar.addi c0_i32_1556 v1550
  v1551.toNat
def k0_dev47 (d0 : Dev nD) : Nat :=
  let c0_i32_1604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1603 : BitVec 32 := 1#32
  let v1602 : BitVec 32 := Scalar.muli v7 c1_i32_1603
  let v1603 : BitVec 32 := Scalar.addi c0_i32_1604 v1602
  v1603.toNat
def k0_dev48 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1638 : BitVec 32 := 1#32
  let v1634 : BitVec 32 := Scalar.muli v5 c1_i32_1638
  let v1635 : BitVec 32 := Scalar.addi c0_i32_1639 v1634
  v1635.toNat
def k0_dev49 (d0 : Dev nD) : Nat :=
  let c0_i32_1674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1673 : BitVec 32 := 1#32
  let v1666 : BitVec 32 := Scalar.muli v7 c1_i32_1673
  let v1667 : BitVec 32 := Scalar.addi c0_i32_1674 v1666
  v1667.toNat
def k0_dev50 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1708 : BitVec 32 := 1#32
  let v1698 : BitVec 32 := Scalar.muli v5 c1_i32_1708
  let v1699 : BitVec 32 := Scalar.addi c0_i32_1709 v1698
  v1699.toNat
def k0_dev51 (d0 : Dev nD) : Nat :=
  let c0_i32_1757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1756 : BitVec 32 := 1#32
  let v1750 : BitVec 32 := Scalar.muli v7 c1_i32_1756
  let v1751 : BitVec 32 := Scalar.addi c0_i32_1757 v1750
  v1751.toNat
def k0_dev52 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1791 : BitVec 32 := 1#32
  let v1782 : BitVec 32 := Scalar.muli v5 c1_i32_1791
  let v1783 : BitVec 32 := Scalar.addi c0_i32_1792 v1782
  v1783.toNat
def k0_dev53 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1826 : BitVec 32 := 1#32
  let v1814 : BitVec 32 := Scalar.muli v7 c1_i32_1826
  let v1815 : BitVec 32 := Scalar.addi c0_i32_1827 v1814
  v1815.toNat
def k0_dev54 (d0 : Dev nD) : Nat :=
  let c0_i32_1862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1861 : BitVec 32 := 1#32
  let v1846 : BitVec 32 := Scalar.muli v5 c1_i32_1861
  let v1847 : BitVec 32 := Scalar.addi c0_i32_1862 v1846
  v1847.toNat
def k0_dev55 (d0 : Dev nD) : Nat :=
  let c0_i32_1910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1909 : BitVec 32 := 1#32
  let v1898 : BitVec 32 := Scalar.muli v7 c1_i32_1909
  let v1899 : BitVec 32 := Scalar.addi c0_i32_1910 v1898
  v1899.toNat
def k0_dev56 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1944 : BitVec 32 := 1#32
  let v1930 : BitVec 32 := Scalar.muli v5 c1_i32_1944
  let v1931 : BitVec 32 := Scalar.addi c0_i32_1945 v1930
  v1931.toNat
def k0_dev57 (d0 : Dev nD) : Nat :=
  let c0_i32_1980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1979 : BitVec 32 := 1#32
  let v1962 : BitVec 32 := Scalar.muli v7 c1_i32_1979
  let v1963 : BitVec 32 := Scalar.addi c0_i32_1980 v1962
  v1963.toNat
def k0_dev58 (d0 : Dev nD) : Nat :=
  let c0_i32_2015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2014 : BitVec 32 := 1#32
  let v1994 : BitVec 32 := Scalar.muli v5 c1_i32_2014
  let v1995 : BitVec 32 := Scalar.addi c0_i32_2015 v1994
  v1995.toNat
def k0_dev59 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2062 : BitVec 32 := 1#32
  let v2046 : BitVec 32 := Scalar.muli v7 c1_i32_2062
  let v2047 : BitVec 32 := Scalar.addi c0_i32_2063 v2046
  v2047.toNat
def k0_dev60 (d0 : Dev nD) : Nat :=
  let c0_i32_2098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2097 : BitVec 32 := 1#32
  let v2078 : BitVec 32 := Scalar.muli v5 c1_i32_2097
  let v2079 : BitVec 32 := Scalar.addi c0_i32_2098 v2078
  v2079.toNat
def k0_dev61 (d0 : Dev nD) : Nat :=
  let c0_i32_2133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2132 : BitVec 32 := 1#32
  let v2110 : BitVec 32 := Scalar.muli v7 c1_i32_2132
  let v2111 : BitVec 32 := Scalar.addi c0_i32_2133 v2110
  v2111.toNat
def k0_dev62 (d0 : Dev nD) : Nat :=
  let c0_i32_2168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2167 : BitVec 32 := 1#32
  let v2142 : BitVec 32 := Scalar.muli v5 c1_i32_2167
  let v2143 : BitVec 32 := Scalar.addi c0_i32_2168 v2142
  v2143.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KI.Prog.lean ====
/-
# The kernel's body as a program over the streams and the hops

The printed body is a straight line of about four hundred statements. Here the same statements are written once per
kind: four streams (streams 0 and 1 send to the next device of the ring, streams 2 and 3 to the one before), each of
fifteen hops, and `body_eq` says the printed body is this program, by unfolding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## Buffers and semaphores of a stream -/

/-- The two-slot send buffer of stream `st`. -/
def sbuf : Fin 4 → Memref sig .tc .vmem S2x256x512 .bf16
  | 0 => Memref.whole cc0_scratch0
  | 1 => Memref.whole cc0_scratch1
  | 2 => Memref.whole cc0_scratch2
  | 3 => Memref.whole cc0_scratch3

/-- The fifteen-slot landing buffer of stream `st`. -/
def cbuf : Fin 4 → Memref sig .tc .vmem S15x256x512 .bf16
  | 0 => Memref.whole cc0_scratch4
  | 1 => Memref.whole cc0_scratch5
  | 2 => Memref.whole cc0_scratch6
  | 3 => Memref.whole cc0_scratch7

/-- The send semaphores of stream `st`. -/
def sarr : Fin 4 → DmaSems sig S15
  | 0 => cc0_scratch8
  | 1 => cc0_scratch9
  | 2 => cc0_scratch10
  | 3 => cc0_scratch11

/-- The receive semaphores of stream `st`. -/
def rarr : Fin 4 → DmaSems sig S15
  | 0 => cc0_scratch12
  | 1 => cc0_scratch13
  | 2 => cc0_scratch14
  | 3 => cc0_scratch15

/-- A send buffer is a whole buffer. -/
theorem sbuf_whole : ∀ st, (sbuf st).IsWhole
  | 0 => Memref.isWhole_whole _
  | 1 => Memref.isWhole_whole _
  | 2 => Memref.isWhole_whole _
  | 3 => Memref.isWhole_whole _

/-- A landing buffer is a whole buffer. -/
theorem cbuf_whole : ∀ st, (cbuf st).IsWhole
  | 0 => Memref.isWhole_whole _
  | 1 => Memref.isWhole_whole _
  | 2 => Memref.isWhole_whole _
  | 3 => Memref.isWhole_whole _

/-- Which of the two send slots hop `s` uses. -/
abbrev par (s : Nat) : Fin 2 := ⟨s % 2, Nat.mod_lt _ (by decide)⟩

/-- A slot of a send buffer lies in the buffer. -/
theorem inbS (j : Fin 2) : ∀ a, (![j.val, 0, 0] : Fin 3 → Nat) a + S1x256x512.size a ≤ S2x256x512.size a := by
  revert j; decide

/-- A slot of a landing buffer lies in the buffer. -/
theorem inbC (s : Fin 15) : ∀ a, (![s.val, 0, 0] : Fin 3 → Nat) a + S1x256x512.size a ≤ S15x256x512.size a := by
  revert s; decide

/-- A semaphore of an array lies in the array. -/
theorem inbD (s : Fin 15) : ∀ a, (![s.val] : Fin 1 → Nat) a + S1.size a ≤ S15.size a := by
  revert s; decide

/-- Slot `j` of a send buffer. -/
abbrev sRect (j : Fin 2) : Rect S2x256x512 := Rect.unit (s := S2x256x512) ![j.val, 0, 0] S1x256x512.size (inbS j)

/-- Slot `s` of a landing buffer. -/
abbrev cRect (s : Fin 15) : Rect S15x256x512 := Rect.unit (s := S15x256x512) ![s.val, 0, 0] S1x256x512.size (inbC s)

/-- A slot of a send buffer is made of whole words. -/
theorem wordsS (j : Fin 2) : (sRect j).WholeWords (EltTy.packing .bf16) := by
  match j with
  | 0 => exact wordsbf16_S2x256x512_S1x256x512_0_0_0
  | 1 => exact wordsbf16_S2x256x512_S1x256x512_1_0_0

/-- A slot of a send buffer is made of packed rows. -/
theorem packedS (j : Fin 2) : (sRect j).PackedRows (EltTy.packing .bf16) := by
  match j with
  | 0 => exact packedbf16_S2x256x512_S1x256x512_0_0_0
  | 1 => exact packedbf16_S2x256x512_S1x256x512_1_0_0

/-- A slot of a landing buffer is made of whole words. -/
theorem wordsC (s : Fin 15) : (cRect s).WholeWords (EltTy.packing .bf16) := by
  match s with
  | 0 => exact wordsbf16_S15x256x512_S1x256x512_0_0_0
  | 1 => exact wordsbf16_S15x256x512_S1x256x512_1_0_0
  | 2 => exact wordsbf16_S15x256x512_S1x256x512_2_0_0
  | 3 => exact wordsbf16_S15x256x512_S1x256x512_3_0_0
  | 4 => exact wordsbf16_S15x256x512_S1x256x512_4_0_0
  | 5 => exact wordsbf16_S15x256x512_S1x256x512_5_0_0
  | 6 => exact wordsbf16_S15x256x512_S1x256x512_6_0_0
  | 7 => exact wordsbf16_S15x256x512_S1x256x512_7_0_0
  | 8 => exact wordsbf16_S15x256x512_S1x256x512_8_0_0
  | 9 => exact wordsbf16_S15x256x512_S1x256x512_9_0_0
  | 10 => exact wordsbf16_S15x256x512_S1x256x512_10_0_0
  | 11 => exact wordsbf16_S15x256x512_S1x256x512_11_0_0
  | 12 => exact wordsbf16_S15x256x512_S1x256x512_12_0_0
  | 13 => exact wordsbf16_S15x256x512_S1x256x512_13_0_0
  | 14 => exact wordsbf16_S15x256x512_S1x256x512_14_0_0

/-- Slot `j` of stream `st`'s send buffer, as a transfer reads it. -/
abbrev sView (st : Fin 4) (j : Fin 2) : Memref sig .tc .vmem S256x512 .bf16 :=
  ((sbuf st).slice (sRect j) (fun _ => rfl)).squeeze S256x512 squeezes_S1x256x512_S256x512

/-- Slot `s` of stream `st`'s landing buffer, as a transfer writes it. -/
abbrev cView (st : Fin 4) (s : Fin 15) : Memref sig .tc .vmem S256x512 .bf16 :=
  ((cbuf st).slice (cRect s) (fun _ => rfl)).squeeze S256x512 squeezes_S1x256x512_S256x512

/-- The send semaphore of hop `s` of stream `st`. -/
abbrev sendSem (st : Fin 4) (s : Fin 15) : DmaSem sig :=
  (((sarr st).slice (Rect.unit (s := S15) ![s.val] S1.size (inbD s))).squeeze S_ squeezes_S1_S_).sem

/-- The receive semaphore of hop `s` of stream `st`. -/
abbrev recvSem (st : Fin 4) (s : Fin 15) : DmaSem sig :=
  (((rarr st).slice (Rect.unit (s := S15) ![s.val] S1.size (inbD s))).squeeze S_ squeezes_S1_S_).sem

/-- The device stream `st` of device `c` sends to. -/
def tgt (c : Dev nD) : Fin 4 → Dev nD
  | 0 => ⟨k0_dev3 c, k0_dev3_lt c⟩
  | 1 => ⟨k0_dev3 c, k0_dev3_lt c⟩
  | 2 => ⟨k0_dev5 c, k0_dev5_lt c⟩
  | 3 => ⟨k0_dev5 c, k0_dev5_lt c⟩

/-! ## The statements -/

/-- Wait for hop `s` of stream `st` to land. -/
def waitRecv (st : Fin 4) (s : Fin 15) : Prog (TpuEff nD τ sig (Elt F) Λ₀ .tc) PUnit :=
  Prog.lift (.waitDma2 (recvSem st s) (sView st (par s.val)) (cView st s)
    (((sbuf_whole st).wordExact_slice rfl _ (wordsS (par s.val))).reshape _ _)
    (((cbuf_whole st).wordExact_slice rfl _ (wordsC s)).reshape _ _))

/-- Wait for hop `s` of stream `st` to have left its send slot. -/
def waitSend (st : Fin 4) (s : Fin 15) : Prog (TpuEff nD τ sig (Elt F) Λ₀ .tc) PUnit :=
  Prog.lift (.waitDma2 (sendSem st s) (cView st s) (sView st (par s.val))
    (((cbuf_whole st).wordExact_slice rfl _ (wordsC s)).reshape _ _)
    (((sbuf_whole st).wordExact_slice rfl _ (wordsS (par s.val))).reshape _ _))

/-- Start hop `s` of stream `st`. -/
def sendHop (c : Dev nD) (st : Fin 4) (s : Fin 15) : Prog (TpuEff nD τ sig (Elt F) Λ₀ .tc) PUnit :=
  Prog.lift (.enqueueDma (sView st (par s.val)) (.remote (Dev.tc (tgt c st)) (cView st s) (.dma (sendSem st s)))
    (.dma (recvSem st s))
    (((sbuf_whole st).wordExact_slice rfl _ (wordsS (par s.val))).reshape _ _)
    (((cbuf_whole st).wordExact_slice rfl _ (wordsC s)).reshape _ _) ⟨⟨rfl, Or.inl rfl⟩, trivial⟩)

/-- Read landing slot `s` of stream `st`. -/
def loadC (st : Fin 4) (s : Fin 15) : Prog (TpuEff nD τ sig (Elt F) Λ₀ .tc) (Vec F S1x256x512 .bf16) :=
  Prog.lift (.load (cbuf st) (cRect s).toLoadRect (View.loadsAt_vmem h_S1x256x512))

/-- Read send slot `j` of stream `st`. -/
def loadS (st : Fin 4) (j : Fin 2) : Prog (TpuEff nD τ sig (Elt F) Λ₀ .tc) (Vec F S1x256x512 .bf16) :=
  Prog.lift (.load (sbuf st) (sRect j).toLoadRect (View.loadsAt_vmem h_S1x256x512))

/-- Write send slot `j` of stream `st`. -/
def storeS (st : Fin 4) (j : Fin 2) (v : FVec F S1x256x512 .bf16) : Prog (TpuEff nD τ sig (Elt F) Λ₀ .tc) PUnit :=
  Prog.lift (.store (sbuf st) (sRect j) v Finset.univ
    (View.stores_vmem h_S1x256x512 ((sbuf_whole st).storeExact_slice rfl _ (packedS j)) (fun _ => rfl)) (.inl rfl))

/-- Read the rows of the current `x` block with offset `r` round the ring. -/
def loadX (c : Dev nD) (r : Fin 17) : Prog (TpuEff nD τ sig (Elt F) Λ₀ .tc) (Vec F S256x256 .fp8e4m3) :=
  Prog.lift (.load (win0_0.stage (cfg0.slots t0_0 0)) (Rect.unit (s := S4096x256) (k0_off1 c (BitVec.ofNat 32 r.val)) S256x256.size
    (k0_off1_inb c r)).toLoadRect (View.loadsAt_vmem h_S256x256))

/-- The columns of a stream lie in the result. -/
theorem inbW (st : Fin 4) : ∀ a, (![0, st.val * 512] : Fin 2 → Nat) a + S256x512.size a ≤ S256x2048.size a := by
  revert st; decide

/-- The columns of stream `st`. -/
abbrev wRect (st : Fin 4) : Rect S256x2048 := Rect.unit (s := S256x2048) ![0, st.val * 512] S256x512.size (inbW st)

/-- Read the columns of `w` of stream `st`. -/
def loadW (st : Fin 4) : Prog (TpuEff nD τ sig (Elt F) Λ₀ .tc) (Vec F S256x512 .fp8e5m2) :=
  Prog.lift (.load (win0_1.stage (cfg0.slots t0_0 1)) (wRect st).toLoadRect (View.loadsAt_vmem h_S256x512))

/-- Read the output columns of stream `st`. -/
def loadO (st : Fin 4) : Prog (TpuEff nD τ sig (Elt F) Λ₀ .tc) (Vec F S256x512 .f32) :=
  Prog.lift (.load (win0_4.stage (cfg0.slots t0_0 4)) (wRect st).toLoadRect (View.loadsAt_vmem h_S256x512))

/-- Write the output columns of stream `st`. -/
def storeO (st : Fin 4) (v : FVec F S256x512 .f32) : Prog (TpuEff nD τ sig (Elt F) Λ₀ .tc) PUnit :=
  Prog.lift (.store (win0_4.stage (cfg0.slots t0_0 4)) (wRect st) v Finset.univ
    (View.stores_vmem_bits_univ h_S256x512 rfl) (.inl rfl))

/-! ## The values -/

/-- One product: a block of rows of `x` with the columns of one stream. -/
def dotP (x : Vec F S256x256 .fp8e4m3) (w : Vec F S256x512 .fp8e5m2) : FVec F S256x512 .f32 :=
  matmul dot_S256x256_S256x512_S256x512_1_0_0_1_n_n none
    (extf .bf16 (shapeCast S256x256 x shapeCasts_S256x256_S256x256 : FVec F S256x256 .fp8e4m3) bitsLt_fp8e4m3_bf16)
    (extf .bf16 (shapeCast S256x512 w shapeCasts_S256x512_S256x512 : FVec F S256x512 .fp8e5m2) bitsLt_fp8e5m2_bf16)
    (constant S256x512 .f32 0x00000000#32)

/-- A value as a send slot holds it. -/
def packV (p : FVec F S256x512 .f32) : FVec F S1x256x512 .bf16 :=
  shapeCast S1x256x512 (truncf .bf16 p bitsLt_bf16_f32 : FVec F S256x512 .bf16) shapeCasts_S256x512_S1x256x512

/-- What landed, plus this device's own product. -/
def accV (v : Vec F S1x256x512 .bf16) (p : FVec F S256x512 .f32) : FVec F S256x512 .f32 :=
  addf (extf .f32 (shapeCast S256x512 v shapeCasts_S1x256x512_S256x512 : FVec F S256x512 .bf16) bitsLt_bf16_f32) p

/-- The result of a stream: scaled, then cut off below at zero. -/
def finV (scale : F .f32) (p : FVec F S256x512 .f32) (v : Vec F S1x256x512 .bf16) : FVec F S256x512 .f32 :=
  maximumf (mulf (accV v p) (broadcast S256x512 scale))
    (broadcast S256x512 (Scalar.ofBits .f32 0x00000000#32 : F .f32))

/-- Which of the two row blocks a stream uses. -/
def pick {α : Type} (a b : α) : Fin 4 → α
  | 0 => a
  | 1 => a
  | 2 => b
  | 3 => b

/-- The four columns' blocks of `w` as a function of the stream. -/
def four {α : Type} (a b c d : α) : Fin 4 → α
  | 0 => a
  | 1 => b
  | 2 => c
  | 3 => d

/-! ## The program -/

/-- The products of one hop, rows `r` for streams 0 and 1, rows `r'` for streams 2 and 3. -/
def partials (c : Dev nD) (w : Fin 4 → Vec F S256x512 .fp8e5m2) (r r' : Fin 17) :
    Prog (TpuEff nD τ sig (Elt F) Λ₀ .tc) (Fin 4 → FVec F S256x512 .f32) := do
  let xa ← loadX c r
  let xb ← loadX c r'
  pure fun st => dotP (pick xa xb st) (w st)

/-- Fill a send slot. -/
def putS (st : Fin 4) (j : Fin 2) (v : FVec F S1x256x512 .bf16) : Prog (TpuEff nD τ sig (Elt F) Λ₀ .tc) PUnit := do
  let _ ← loadS st j
  storeS st j v

/-- Before a send slot is filled again: the transfer that read it two hops ago has left. -/
def waitPrev (st : Fin 4) : (s : Nat) → s < 14 → Prog (TpuEff nD τ sig (Elt F) Λ₀ .tc) PUnit
  | 0, _ => pure ⟨⟩
  | s + 1, h => waitSend st ⟨s, by omega⟩

/-- One hop of one stream: wait for it, add, pass on. -/
def hop1 (c : Dev nD) (p : Fin 4 → FVec F S256x512 .f32) (s : Nat) (h : s < 14) (st : Fin 4) :
    Prog (TpuEff nD τ sig (Elt F) Λ₀ .tc) PUnit := do
  waitRecv st ⟨s, by omega⟩
  let v ← loadC st ⟨s, by omega⟩
  waitPrev st s h
  putS st (par (s + 1)) (packV (accV v (p st)))
  sendHop c st ⟨s + 1, by omega⟩

/-- One hop of all the streams. -/
def hop (c : Dev nD) (p : Fin 4 → FVec F S256x512 .f32) (s : Nat) (h : s < 14) :
    Prog (TpuEff nD τ sig (Elt F) Λ₀ .tc) PUnit := do
  hop1 c p s h 0
  hop1 c p s h 2
  hop1 c p s h 1
  hop1 c p s h 3

/-- The hops from `s` on, then the products the last landing is added to. -/
def hops (c : Dev nD) (w : Fin 4 → Vec F S256x512 .fp8e5m2) :
    (n : Nat) → (s : Nat) → s + n = 14 → (Fin 4 → FVec F S256x512 .f32) →
      Prog (TpuEff nD τ sig (Elt F) Λ₀ .tc) (Fin 4 → FVec F S256x512 .f32)
  | 0, _, _, p => pure p
  | n + 1, s, h, p => do
    hop c p s (by omega)
    let p' ← partials c w ⟨13 - s, by omega⟩ ⟨s + 3, by omega⟩
    hops c w n (s + 1) (by omega) p'

/-- The last landing of a stream and its result. -/
def last1 (scale : F .f32) (p : Fin 4 → FVec F S256x512 .f32) (st : Fin 4) :
    Prog (TpuEff nD τ sig (Elt F) Λ₀ .tc) PUnit := do
  waitRecv st ⟨14, by omega⟩
  let v ← loadC st ⟨14, by omega⟩
  let _ ← loadO st
  storeO st (finV scale (p st) v)

/-- Wait for the last two transfers of a stream to have left. -/
def drain1 (st : Fin 4) : Prog (TpuEff nD τ sig (Elt F) Λ₀ .tc) PUnit := do
  waitSend st ⟨13, by omega⟩
  waitSend st ⟨14, by omega⟩

/-- The barrier semaphore. -/
abbrev barS : Sem sig := (SemArray.scalar (sig.barrier 0 rfl) : Sems sig S_).sem

/-- The entry handshake: signal both neighbours, wait for both. -/
def handshake (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semWaitWord barS 2#32

/-- The body from the handshake on. -/
def mainPart (c : Dev nD) (w : Fin 4 → Vec F S256x512 .fp8e5m2) : Prog (TpuEff nD τ sig (Elt F) Λ₀ .tc) PUnit := do
  sendHop c 0 ⟨0, by omega⟩
  sendHop c 1 ⟨0, by omega⟩
  sendHop c 2 ⟨0, by omega⟩
  sendHop c 3 ⟨0, by omega⟩
  let p ← partials c w 14 2
  let sx ← smemLoad (win0_2.stage (cfg0.slots t0_0 2)) (Rect.unit (s := S1) ![0] S1.size inb_S1_S1_0) numel1_S1 rfl
  let sw ← smemLoad (win0_3.stage (cfg0.slots t0_0 3)) (Rect.unit (s := S1) ![0] S1.size inb_S1_S1_0) numel1_S1 rfl
  let p' ← hops c w 14 0 rfl p
  last1 (k0_pay17 sx sw) p' 0
  last1 (k0_pay17 sx sw) p' 2
  last1 (k0_pay17 sx sw) p' 1
  last1 (k0_pay17 sx sw) p' 3
  drain1 0
  drain1 1
  drain1 2
  drain1 3

/-- The whole body. -/
def body : Prog (TpuEff nD τ sig (Elt F) Λ₀ .tc) PUnit := do
  let c ← Prog.lift .deviceId
  let w0 ← loadW 0
  let w1 ← loadW 1
  let w2 ← loadW 2
  let w3 ← loadW 3
  let xa ← loadX c 15
  let xb ← loadX c 1
  putS 0 (par 0) (packV (dotP xa w0))
  putS 1 (par 0) (packV (dotP xa w1))
  putS 2 (par 0) (packV (dotP xb w2))
  putS 3 (par 0) (packV (dotP xb w3))
  handshake c
  mainPart c (four w0 w1 w2 w3)

set_option maxRecDepth 65536 in
/-- The printed body is this program. -/
theorem body_eq : bodyAt0 (F := F) t0_0 = body := by
  chain_rfl

end Cert.KernelIdeal.Ring

end
-- ==== Proof.KI.Sched.lean ====
/-
# The protocol of the ring

Sixteen devices in a ring. On every device each stream has fifteen send semaphores and fifteen receive semaphores, one
per hop, and there is one barrier semaphore. Each is used in one round only:

* the barrier of device `c` gets one unit from each neighbour; the neighbour a stream of `c` sends to hands over, with
  its unit, the landing slots of that stream;
* receive semaphore `s` of stream `st` on `c` gets the bytes of hop `s` from the neighbour the stream comes from, which
  hands over landing slot `s` holding what that neighbour sent (`val`);
* send semaphore `s` gets the same amount from `c`'s own transfer and hands back the send slot.

A device that waits for hop `s` owes only hops after `s`: the receive semaphore of hop `s` has level `2 + s`.
-/
module

public import proofs.«01_k».proof.Proof.KI.Prog
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resources, duties named by a Boolean. -/
abbrev UB : Type := URounds (GSem nD τ sig) Bool
/-- The pipeline's resources beside the protocol's. -/
abbrev UU : Type := UR sig nD τ × UB

local notation "𝕄" => MT nD τ sig Unit (Elt F) ℕ UU ℕ

/-- The component of the pipeline's protocol. -/
abbrev EP : Emb (UR sig nD τ) (MT nD τ sig Unit (Elt F) ℕ UU ℕ) := embL
/-- The component of the ring's protocol. -/
abbrev ER : Emb UB (MT nD τ sig Unit (Elt F) ℕ UU ℕ) := embR

/-! ## The ring of devices -/

set_option backward.proofsInPublic true in
/-- The next device. -/
def nxt (c : Dev nD) : Dev nD := ⟨(c.val + 1) % 16, Nat.mod_lt _ (by decide)⟩
set_option backward.proofsInPublic true in
/-- The device before. -/
def prv (c : Dev nD) : Dev nD := ⟨(c.val + 15) % 16, Nat.mod_lt _ (by decide)⟩

/-- The device before the next one is the device itself. -/
theorem prv_nxt (c : Dev nD) : prv (nxt c) = c := by revert c; decide
/-- The device after the previous one is the device itself. -/
theorem nxt_prv (c : Dev nD) : nxt (prv c) = c := by revert c; decide

/-- The ring as a permutation of the devices. -/
def ring : Dev nD ≃ Dev nD := ⟨nxt, prv, prv_nxt, nxt_prv⟩

/-- The device stream `st` of `c` sends to: the next one for streams 0 and 1, the one before for streams 2 and 3. -/
def dst (st : Fin 4) : Dev nD ≃ Dev nD := pick ring ring.symm st

/-- The device stream `st` of `c` comes from. -/
abbrev src (st : Fin 4) : Dev nD ≃ Dev nD := (dst st).symm

/-- The first barrier signal goes to the previous device. -/
theorem dev1_eq (c : Dev nD) : (⟨k0_dev1 c, k0_dev1_lt c⟩ : Dev nD) = prv c := by revert c; decide
/-- The second barrier signal goes to the next device. -/
theorem dev2_eq (c : Dev nD) : (⟨k0_dev2 c, k0_dev2_lt c⟩ : Dev nD) = nxt c := by revert c; decide
/-- The streams going forward address the next device. -/
theorem dev3_eq (c : Dev nD) : (⟨k0_dev3 c, k0_dev3_lt c⟩ : Dev nD) = nxt c := by revert c; decide
/-- The streams going backward address the previous device. -/
theorem dev5_eq (c : Dev nD) : (⟨k0_dev5 c, k0_dev5_lt c⟩ : Dev nD) = prv c := by revert c; decide

/-- The device a stream addresses is the neighbour it sends to. -/
theorem tgt_eq (c : Dev nD) : ∀ st, tgt c st = dst st c
  | 0 => dev3_eq c
  | 1 => dev3_eq c
  | 2 => dev5_eq c
  | 3 => dev5_eq c

/-! ## The semaphores -/

/-- A transfer semaphore: receive or send, the stream, the hop. -/
abbrev Key : Type := Bool × Fin 4 × Fin 15

/-- The semaphore of a key. -/
def xsem : Key → DmaSem sig
  | (false, st, s) => sendSem st s
  | (true, st, s) => recvSem st s

/-- The key of a semaphore, by its number: send semaphores are 5 to 64, receive semaphores 65 to 124. -/
def xkey (q : DmaSem sig) : Option Key :=
  if 5 ≤ q.val then
    some (decide (65 ≤ q.val), ⟨((q.val - 5) / 15) % 4, Nat.mod_lt _ (by decide)⟩, ⟨(q.val - 5) % 15, Nat.mod_lt _ (by decide)⟩)
  else none

/-- The key of the semaphore of a key is that key. -/
theorem xkey_xsem (k : Key) : xkey (xsem k) = some k := by revert k; decide +kernel

/-- Different keys have different transfer semaphores. -/
theorem xsem_inj : Function.Injective xsem := fun a b h =>
  Option.some.inj ((xkey_xsem a).symm.trans ((congrArg xkey h).trans (xkey_xsem b)))

/-- A device's semaphores of the protocol: the barrier (`none`) and the transfer semaphores. -/
def csem : Option Key → SemLoc sig
  | none => .reg barS
  | some k => .dma (xsem k)

/-- Different keys have different semaphores, the barrier included. -/
theorem csem_inj : Function.Injective csem
  | none, none, _ => rfl
  | none, some _, h => nomatch h
  | some _, none, h => nomatch h
  | some a, some b, h => congrArg some (xsem_inj (SemLoc.dma.inj h))

/-- The cell of a device and a semaphore of the protocol. -/
abbrev kcell (ck : Dev nD × Option Key) : GSem nD τ sig := ((ck.1 : Thread nD τ), csem ck.2)
/-- The barrier cell of a device. -/
abbrev barCell (c : Dev nD) : GSem nD τ sig := ((c : Thread nD τ), .reg barS)
/-- The send cell of a hop on a device. -/
abbrev sendCell (c : Dev nD) (st : Fin 4) (s : Fin 15) : GSem nD τ sig := ((c : Thread nD τ), .dma (sendSem st s))
/-- The receive cell of a hop on a device. -/
abbrev recvCell (c : Dev nD) (st : Fin 4) (s : Fin 15) : GSem nD τ sig := ((c : Thread nD τ), .dma (recvSem st s))

/-- The key of the send semaphore of a hop. -/
theorem xkey_send (st : Fin 4) (s : Fin 15) : xkey (sendSem st s) = some (false, st, s) := xkey_xsem (false, st, s)
/-- The key of the receive semaphore of a hop. -/
theorem xkey_recv (st : Fin 4) (s : Fin 15) : xkey (recvSem st s) = some (true, st, s) := xkey_xsem (true, st, s)

/-- The amount of one hop. -/
abbrev N : ℕ := (cView 0 0).view.dmaCredit
/-- A hop transfers something. -/
theorem N_pos : 0 < N := View.dmaCredit_pos _ (by decide)
/-- Every landing slot is one hop's amount. -/
theorem credit_c : ∀ (st : Fin 4) (s : Fin 15), (cView st s).view.dmaCredit = N
  | 0, _ => rfl
  | 1, _ => rfl
  | 2, _ => rfl
  | 3, _ => rfl
/-- Every send slot is one hop's amount. -/
theorem credit_s : ∀ (st : Fin 4) (j : Fin 2), (sView st j).view.dmaCredit = N
  | 0, _ => rfl
  | 1, _ => rfl
  | 2, _ => rfl
  | 3, _ => rfl

/-! ## The slots -/

/-- Landing slot `s` of stream `st` on device `c`, the buffer at contents `f`. -/
def cPts (c : Dev nD) (st : Fin 4) (s : Fin 15) (f : Buf (Elt F) ((cView st s).view.loc (c : Thread nD τ))) : sProp 𝕄 :=
  (cView st s).view.loc (c : Thread nD τ) ↦[(cView st s).view.set]{fullShare} f
/-- Send slot `j` of stream `st` on device `c`, the buffer at contents `f`. -/
def sPts (c : Dev nD) (st : Fin 4) (j : Fin 2) (f : Buf (Elt F) ((sView st j).view.loc (c : Thread nD τ))) : sProp 𝕄 :=
  (sView st j).view.loc (c : Thread nD τ) ↦[(sView st j).view.set]{fullShare} f
/-- A landing slot holding anything. -/
def cFree (c : Dev nD) (st : Fin 4) (s : Fin 15) : sProp 𝕄 := iprop(∃ f, cPts c st s f)
/-- A send slot holding anything. -/
def sFree (c : Dev nD) (st : Fin 4) (j : Fin 2) : sProp 𝕄 := iprop(∃ f, sPts c st j f)
/-- A landing slot holding `X`. -/
def cHas (c : Dev nD) (st : Fin 4) (s : Fin 15) (X : Vec F S1x256x512 .bf16) : sProp 𝕄 :=
  iprop(∃ f, ⌜(cbuf st).view.readAt (Elt F) (cRect s).toLoadRect f = X⌝ ∗ cPts c st s f)
/-- A send slot holding `X`. -/
def sHas (c : Dev nD) (st : Fin 4) (j : Fin 2) (X : Vec F S1x256x512 .bf16) : sProp 𝕄 :=
  iprop(∃ f, ⌜(sbuf st).view.readAt (Elt F) (sRect j).toLoadRect f = X⌝ ∗ sPts c st j f)

omit [FloatOps F] in
instance cFree_storable (c : Dev nD) (st s) : BI.Storable (upEmb : UEmb _ 𝕄) (cFree (F := F) c st s) := by
  unfold cFree cPts; infer_instance
omit [FloatOps F] in
instance sFree_storable (c : Dev nD) (st j) : BI.Storable (upEmb : UEmb _ 𝕄) (sFree (F := F) c st j) := by
  unfold sFree sPts; infer_instance
omit [FloatOps F] in
instance cHas_storable (c : Dev nD) (st s X) : BI.Storable (upEmb : UEmb _ 𝕄) (cHas (F := F) c st s X) := by
  unfold cHas cPts; infer_instance

/-! ## The schedule -/

/-- What each device sends at each hop of each stream. -/
abbrev Sent (F : FTy → Type) : Type := Dev nD → Fin 4 → ℕ → Vec F S1x256x512 .bf16

/-- The two streams of a direction: `true` the streams that go to the next device. -/
def strm (d : Bool) (i : Fin 2) : Fin 4 := if d then ⟨i.val, by omega⟩ else ⟨2 + i.val, by omega⟩

/-- What device `c` is handed at the barrier for direction `d`: the landing slots of that direction's streams on the
    neighbour it sends them to. -/
def barPay (c : Dev nD) (d : Bool) : sProp 𝕄 :=
  bigSep Finset.univ fun i : Fin 2 => bigSep Finset.univ fun s : Fin 15 => cFree (dst (strm d i) c) (strm d i) s

omit [FloatOps F] in
instance barPay_storable (c : Dev nD) (d : Bool) : BI.Storable (upEmb : UEmb _ 𝕄) (barPay (F := F) c d) := by
  unfold barPay; infer_instance

/-- What a transfer semaphore's one duty hands over. -/
def xPay (val : Sent F) (c : Dev nD) : Key → sProp 𝕄
  | (false, st, s) => sFree c st (par s.val)
  | (true, st, s) => cHas c st s (val (src st c) st s.val)

omit [FloatOps F] in
instance xPay_storable (val : Sent F) (c : Dev nD) : (k : Key) → BI.Storable (upEmb : UEmb _ 𝕄) (xPay val c k)
  | (false, st, s) => by unfold xPay; infer_instance
  | (true, st, s) => by unfold xPay; infer_instance

/-- The same for a semaphore's key, where it has one. -/
def optPay (val : Sent F) (c : Dev nD) : Option Key → sProp 𝕄
  | none => iprop(emp)
  | some k => xPay val c k

omit [FloatOps F] in
instance optPay_storable (val : Sent F) (c : Dev nD) : (k : Option Key) → BI.Storable (upEmb : UEmb _ 𝕄) (optPay val c k)
  | none => by unfold optPay; infer_instance
  | some k => by unfold optPay; infer_instance

/-- The duties of a semaphore in its one round. -/
def dutiesOf : SemLoc sig → Finset Bool
  | .reg q => if q = barS then Finset.univ else ∅
  | .dma q => if (xkey q).isSome then {false} else ∅

/-- What a duty hands over. -/
def payOf (val : Sent F) (c : Dev nD) (d : Bool) : SemLoc sig → sProp 𝕄
  | .reg _ => barPay c d
  | .dma q => optPay val c (xkey q)

omit [FloatOps F] in
instance payOf_storable (val : Sent F) (c : Dev nD) (d : Bool) : (q : SemLoc sig) → BI.Storable (upEmb : UEmb _ 𝕄) (payOf val c d q)
  | .reg _ => by unfold payOf; infer_instance
  | .dma q => by
    unfold payOf; infer_instance

/-- How much a duty of a semaphore adds. -/
def amtOf : SemLoc sig → ℕ
  | .reg _ => 1
  | .dma _ => N

/-- Every duty pays something. -/
theorem amtOf_pos : ∀ q, 0 < amtOf q
  | .reg _ => Nat.one_pos
  | .dma _ => N_pos

/-- The schedule. -/
def Rd (val : Sent F) : Rounds.Schedule (GSem nD τ sig) Bool 𝕄 where
  duties g r := if r = 0 ∧ g.1.2 = .tc then dutiesOf g.2 else ∅
  unitless _ := False
  amount g _ _ := amtOf g.2
  payload g _ d := payOf val g.1.1 d g.2
  amount_pos g _ _ _ := amtOf_pos g.2

omit [FloatOps F] in
instance Rd_storable (val : Sent F) (g : GSem nD τ sig) (r : ℕ) (d : Bool) :
    BI.Storable (upEmb : UEmb _ 𝕄) ((Rd val).payload g r d) := payOf_storable val g.1.1 d g.2

section Sched
variable (val : Sent F) (c : Dev nD)

omit [FloatOps F] in
/-- A barrier has both duties. -/
theorem duties_bar : (Rd val).duties (barCell c) 0 = Finset.univ := by
  dsimp only [Rd]; rw [if_pos ⟨rfl, rfl⟩]; dsimp only [dutiesOf]; exact if_pos rfl
omit [FloatOps F] in
/-- A transfer cell has one duty. -/
theorem duties_x (k : Key) : (Rd val).duties (kcell (c, some k)) 0 = {false} := by
  dsimp only [Rd]; rw [if_pos ⟨rfl, rfl⟩]; dsimp only [csem, dutiesOf]; rw [xkey_xsem]; rfl
omit [FloatOps F] in
/-- There are no duties after the first round. -/
theorem duties_later (g : GSem nD τ sig) : ∀ r, 1 ≤ r → (Rd val).duties g r = ∅ :=
  fun r hr => by dsimp only [Rd]; rw [if_neg fun h => by omega]
omit [FloatOps F] in
/-- A barrier expects two signals. -/
theorem expect_bar : (Rd val).expect (barCell c) 0 = 2 := by
  unfold Schedule.expect Schedule.amountOf
  rw [duties_bar, show (Rd val).amount (barCell c) 0 = fun _ => 1 from rfl, Finset.sum_const, Finset.card_univ, Fintype.card_bool,
    smul_eq_mul]
omit [FloatOps F] in
/-- A transfer cell expects one hop's amount. -/
theorem expect_x (k : Key) : (Rd val).expect (kcell (c, some k)) 0 = N := by
  unfold Schedule.expect Schedule.amountOf; rw [duties_x, Finset.sum_singleton]; rfl
omit [FloatOps F] in
/-- What a transfer cell hands over. -/
theorem payload_x (k : Key) (d : Bool) : (Rd val).payload (kcell (c, some k)) 0 d = xPay val c k := by
  dsimp only [Rd, csem, payOf]; rw [xkey_xsem]; rfl
omit [FloatOps F] in
/-- A transfer semaphore's round hands over its one duty's payload. -/
theorem rest_x (k : Key) : bigSep ((Rd val).duties (kcell (c, some k)) 0 \ ∅) (fun d => (Rd val).payload (kcell (c, some k)) 0 d)
    = xPay val c k := by
  rw [Finset.sdiff_empty, duties_x, bigSep_singleton, payload_x]
variable (st : Fin 4) (s : Fin 15)

omit [FloatOps F] in
/-- A send cell has one duty. -/
theorem duties_send : (Rd val).duties (sendCell c st s) 0 = {false} := duties_x val c (false, st, s)
omit [FloatOps F] in
/-- A receive cell has one duty. -/
theorem duties_recv : (Rd val).duties (recvCell c st s) 0 = {false} := duties_x val c (true, st, s)
omit [FloatOps F] in
/-- A send cell expects one hop's amount. -/
theorem expect_send : (Rd val).expect (sendCell c st s) 0 = N := expect_x val c (false, st, s)
omit [FloatOps F] in
/-- A receive cell expects one hop's amount. -/
theorem expect_recv : (Rd val).expect (recvCell c st s) 0 = N := expect_x val c (true, st, s)
omit [FloatOps F] in
/-- A send cell hands back the send slot. -/
theorem payload_send (d : Bool) : (Rd val).payload (sendCell c st s) 0 d = sFree c st (par s.val) := payload_x val c (false, st, s) d
omit [FloatOps F] in
/-- A receive cell hands over the landing slot holding what was sent. -/
theorem payload_recv (d : Bool) : (Rd val).payload (recvCell c st s) 0 d = cHas c st s (val (src st c) st s.val) :=
  payload_x val c (true, st, s) d
omit [FloatOps F] in
/-- A wait on a send cell hands back the send slot. -/
theorem rest_send : bigSep ((Rd val).duties (sendCell c st s) 0 \ ∅) (fun d => (Rd val).payload (sendCell c st s) 0 d)
    = sFree c st (par s.val) := rest_x val c (false, st, s)
omit [FloatOps F] in
/-- A wait on a receive cell hands over the landing slot holding what was sent. -/
theorem rest_recv : bigSep ((Rd val).duties (recvCell c st s) 0 \ ∅) (fun d => (Rd val).payload (recvCell c st s) 0 d)
    = cHas c st s (val (src st c) st s.val) := rest_x val c (true, st, s)

omit [FloatOps F] in
/-- The barrier's round hands over the landing slots of both directions. -/
theorem rest_bar : bigSep ((Rd val).duties (barCell c) 0 \ ∅) (fun d => (Rd val).payload (barCell c) 0 d)
    = iprop(barPay c true ∗ barPay c false) := by
  rw [Finset.sdiff_empty, duties_bar, bigSep_univ_eq_bigSepL [true, false] (by decide) (by decide), bigSepL_cons_cons,
    bigSepL_singleton]
  rfl

end Sched

/-! ## What a device owes, and the levels -/

/-- The hops stream `st` still has to send are those from `k st` on; the receive semaphores they are owed to. -/
def oweS (c : Dev nD) (k : Fin 4 → ℕ) : CellTallies nD τ sig Unit :=
  ∑ p : Fin 4 × Fin 15, if k p.1 ≤ p.2.val then tallyAt (recvCell (dst p.1 c) p.1 p.2) () N else 0

/-- What a device owes at the start: every hop, and a unit to both neighbours' barriers. -/
def O₀ (c : Dev nD) : CellTallies nD τ sig Unit :=
  oweS c (fun _ => 0) + tallyAt (barCell (nxt c)) () 1 + tallyAt (barCell (prv c)) () 1

/-- Sending hop `k st` of stream `st` pays it. -/
theorem oweS_peel (c : Dev nD) (k : Fin 4 → ℕ) (st : Fin 4) (s : Fin 15) (h : k st = s.val) :
    oweS c k = oweS c (Function.update k st (s.val + 1)) + tallyAt (recvCell (dst st c) st s) () N := by
  unfold oweS
  rw [← Finset.sum_erase_add _ _ (Finset.mem_univ ((st, s) : Fin 4 × Fin 15)),
    ← Finset.sum_erase_add (f := fun p : Fin 4 × Fin 15 => if Function.update k st (s.val + 1) p.1 ≤ p.2.val then _ else _) _
      (Finset.mem_univ ((st, s) : Fin 4 × Fin 15))]
  rw [if_pos (le_of_eq h), Function.update_self, if_neg (by simp), add_zero]
  congr 1
  refine Finset.sum_congr rfl fun p hp => ?_
  have hne := Finset.ne_of_mem_erase hp
  by_cases h1 : p.1 = st
  · have h2 : p.2 ≠ s := fun e => hne (Prod.ext h1 e)
    have h3 : p.2.val ≠ s.val := fun e => h2 (Fin.ext e)
    rw [h1, Function.update_self, h]
    by_cases h4 : s.val ≤ p.2.val
    · rw [if_pos h4, if_pos (by omega)]
    · rw [if_neg h4, if_neg (by omega)]
  · rw [Function.update_of_ne h1]

/-- What sending owes is owed to the receive cell of a hop not yet sent. -/
theorem oweS_pos {c : Dev nD} {k : Fin 4 → ℕ} {g : GSem nD τ sig} {u : Unit} (h : 0 < oweS c k g u) :
    ∃ st s, k st ≤ s.val ∧ g = recvCell (dst st c) st s := by
  by_contra hn
  push Not at hn
  refine absurd h (Nat.not_lt.mpr (le_of_eq ?_))
  unfold oweS
  rw [Finset.sum_apply, Finsupp.finset_sum_apply]
  refine Finset.sum_eq_zero fun p _ => ?_
  by_cases hk : k p.1 ≤ p.2.val
  · rw [if_pos hk, tallyAt_apply, if_neg fun e => hn p.1 p.2 hk e.1]
  · rw [if_neg hk]; rfl

/-- With every hop sent, nothing is owed. -/
theorem oweS_done (c : Dev nD) (k : Fin 4 → ℕ) (h : ∀ st, 15 ≤ k st) : oweS c k = 0 := by
  unfold oweS
  exact Finset.sum_eq_zero fun p _ => if_neg (by have := h p.1; omega)

/-- The tags of a cell: one on every tensor core's cell. -/
def L (g : GSem nD τ sig) : Finset Unit := if g.1.2 = .tc then {()} else ∅
/-- Barriers at level 1, the receive semaphore of hop `s` at `2 + s`, the others at 0. -/
def lvOf : SemLoc sig → ℕ
  | .reg _ => 1
  | .dma q => match xkey q with
    | some (true, _, s) => 2 + s.val
    | _ => 0
/-- The level of a cell. -/
def lv (g : GSem nD τ sig) (_ : Unit) : ℕ := lvOf g.2

/-- A cell of another core has no tag. -/
theorem L_of_ne (g : GSem nD τ sig) (h : g.1.2 ≠ .tc) : L g = ∅ := if_neg h
/-- A cell of a tensor core has the one tag. -/
theorem L_tc (c : Dev nD) (sm : SemLoc sig) : L ((c : Thread nD τ), sm) = {()} := if_pos rfl
/-- The level of a receive semaphore. -/
theorem lvOf_recv (st : Fin 4) (s : Fin 15) : lvOf (.dma (recvSem st s)) = 2 + s.val := by
  dsimp only [lvOf]; rw [xkey_recv]
/-- The level of a send semaphore. -/
theorem lvOf_send (st : Fin 4) (s : Fin 15) : lvOf (.dma (sendSem st s)) = 0 := by
  dsimp only [lvOf]; rw [xkey_send]
/-- The level of a receive cell. -/
theorem lv_recv (c : Dev nD) (st : Fin 4) (s : Fin 15) : lv (recvCell c st s) () = 2 + s.val := by
  dsimp only [lv, lvOf]; rw [xkey_recv]
/-- The level of a send cell. -/
theorem lv_send (c : Dev nD) (st : Fin 4) (s : Fin 15) : lv (sendCell c st s) () = 0 := by
  dsimp only [lv, lvOf]; rw [xkey_send]

omit [FloatOps F] in
/-- A wait is allowed at or below level `n` while all that is owed lies above. -/
theorem mayWait (c : Dev nD) (sm : SemLoc sig) (n : ℕ) (hsm : lvOf sm ≤ n) (O : CellTallies nD τ sig Unit)
    (hO : ∀ g u, 0 < O g u → g.1.2 = .tc ∧ n < lvOf g.2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- What sending still owes lies above level `n`, once every stream has sent at least `n - 1` hops. -/
theorem oweS_above (c : Dev nD) (k : Fin 4 → ℕ) (n : ℕ) (hk : ∀ st, n ≤ k st + 1) (g : GSem nD τ sig) (u : Unit) (h : 0 < oweS c k g u) :
    g.1.2 = .tc ∧ n < lvOf g.2 := by
  obtain ⟨st, s, hs, rfl⟩ := oweS_pos h
  refine ⟨rfl, ?_⟩
  have := lv_recv (dst st c) st s
  dsimp only [lv] at this
  rw [this]; have := hk st; omega

/-- What a device owes at the launch lies above level 0. -/
theorem O₀_above (c : Dev nD) (g : GSem nD τ sig) (u : Unit) (h : 0 < O₀ c g u) : g.1.2 = .tc ∧ 0 < lvOf g.2 := by
  unfold O₀ at h
  rw [Pi.add_apply, Finsupp.add_apply, Pi.add_apply, Finsupp.add_apply] at h
  by_cases h1 : 0 < oweS c (fun _ => 0) g u
  · exact oweS_above c _ 0 (fun _ => Nat.zero_le _) g u h1
  by_cases h2 : 0 < (tallyAt (barCell (nxt c)) () 1 : CellTallies nD τ sig Unit) g u
  · rw [(Pipeline.tallyAt_pos h2).1]; exact ⟨rfl, Nat.one_pos⟩
  · have h3 : 0 < (tallyAt (barCell (prv c)) () 1 : CellTallies nD τ sig Unit) g u := by omega
    rw [(Pipeline.tallyAt_pos h3).1]; exact ⟨rfl, Nat.one_pos⟩

end Cert.KernelIdeal.Ring

end
-- ==== Proof.KI.Steps.lean ====
/-
# The statements that touch the streams

One rule per kind of statement: a load from a landing slot, filling a send slot, the two waits, and a transfer. Each
takes what the protocol says the statement needs and gives back what it leaves.
-/
module

public import proofs.«01_k».proof.Proof.KI.Sched

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots as the two kinds of access see them -/

/-- The elements of a landing slot are those of its rectangle in the buffer. -/
theorem cView_set (st : Fin 4) (s : Fin 15) : (cView st s).view.set = ((cbuf st).access (cRect s)).set := View.set_reshape _ _
/-- The elements of a send slot are those of its rectangle in the buffer. -/
theorem sView_set (st : Fin 4) (j : Fin 2) : (sView st j).view.set = ((sbuf st).access (sRect j)).set := View.set_reshape _ _

omit [FloatOps F] in
/-- A transfer's landing slot reads as its send slot did. -/
theorem read_landed (st : Fin 4) (s : Fin 15) (j : Fin 2) (fd : (cView st s).view.ty.Contents (Elt F))
    (fs : (sView st j).view.ty.Contents (Elt F)) :
    (cbuf st).view.readAt (Elt F) (cRect s).toLoadRect ((cView st s).view.write (Elt F) fd ((sView st j).view.read (Elt F) fs) Finset.univ)
      = (sbuf st).view.readAt (Elt F) (sRect j).toLoadRect fs := by
  have hw := View.read_write_univ (v := (cView st s).view) (Val := Elt F) fd ((sView st j).view.read (Elt F) fs)
  generalize (cView st s).view.write (Elt F) fd ((sView st j).view.read (Elt F) fs) Finset.univ = g at hw ⊢
  funext i
  have h := congrFun hw ((Shape.reshapeEquiv squeezes_S1x256x512_S256x512.numel_eq).symm i)
  have e1 : (cView st s).view.read (Elt F) g ((Shape.reshapeEquiv squeezes_S1x256x512_S256x512.numel_eq).symm i)
      = (cbuf st).view.readAt (Elt F) (cRect s).toLoadRect g
          ((Shape.reshapeEquiv squeezes_S1x256x512_S256x512.numel_eq)
            ((Shape.reshapeEquiv squeezes_S1x256x512_S256x512.numel_eq).symm i)) := rfl
  have e2 : (sView st j).view.read (Elt F) fs ((Shape.reshapeEquiv squeezes_S1x256x512_S256x512.numel_eq).symm i)
      = (sbuf st).view.readAt (Elt F) (sRect j).toLoadRect fs
          ((Shape.reshapeEquiv squeezes_S1x256x512_S256x512.numel_eq)
            ((Shape.reshapeEquiv squeezes_S1x256x512_S256x512.numel_eq).symm i)) := rfl
  rw [e1, e2, Equiv.apply_symm_apply] at h
  exact h

/-! ## The shared context -/

variable (val : Sent F) (K : Dev nD × Option Key → ℕ)

/-- Every cell's invariant, that every cell has reached its round, and the levels. -/
def Ctx : sProp 𝕄 :=
  iprop((bigSep Finset.univ fun ck : Dev nD × Option Key => cellInv ER (Rd val) (K ck) (kcell ck))
    ∗ (bigSep Finset.univ fun ck : Dev nD × Option Key => reached ER (kcell ck) 0) ∗ levAts L lv)

instance Ctx_persistent : BI.Persistent (Ctx val K) := by unfold Ctx; infer_instance

omit [FloatOps F] in
/-- From the invariants of all cells, that of one. -/
theorem inv_at (ck : Dev nD × Option Key) :
    (bigSep Finset.univ fun ck : Dev nD × Option Key => (cellInv ER (Rd val) (K ck) (kcell ck) : sProp 𝕄))
      ⊢ cellInv ER (Rd val) (K ck) (kcell ck) := bigSep_elim (Finset.mem_univ ck)
omit [FloatOps F] in
/-- From the rounds reached by all cells, that of one. -/
theorem reached_at (ck : Dev nD × Option Key) :
    (bigSep Finset.univ fun ck : Dev nD × Option Key => (reached ER (kcell ck) 0 : sProp 𝕄)) ⊢ reached ER (kcell ck) 0 :=
  bigSep_elim (Finset.mem_univ ck)
omit [FloatOps F] in
/-- The context has the invariant of every cell. -/
theorem Ctx_inv (ck : Dev nD × Option Key) : Ctx val K ⊢ cellInv ER (Rd val) (K ck) (kcell ck) := by
  unfold Ctx
  iintro ⟨H, -, -⟩
  iapply (inv_at val K ck); iexact H
omit [FloatOps F] in
/-- The context knows that every cell is in its first round. -/
theorem Ctx_reached (ck : Dev nD × Option Key) : Ctx val K ⊢ reached ER (kcell ck) 0 := by
  unfold Ctx
  iintro ⟨-, H, -⟩
  iapply (reached_at (F := F) ck); iexact H
omit [FloatOps F] in
/-- The context has the invariant of a send cell. -/
theorem Ctx_send (c : Dev nD) (st : Fin 4) (s : Fin 15) :
    Ctx val K ⊢ cellInv ER (Rd val) (K (c, some (false, st, s))) (sendCell c st s) := Ctx_inv val K (c, some (false, st, s))
omit [FloatOps F] in
/-- The context has the invariant of a receive cell. -/
theorem Ctx_recv (c : Dev nD) (st : Fin 4) (s : Fin 15) :
    Ctx val K ⊢ cellInv ER (Rd val) (K (c, some (true, st, s))) (recvCell c st s) := Ctx_inv val K (c, some (true, st, s))
omit [FloatOps F] in
/-- The context knows that a send cell is in its first round. -/
theorem Ctx_rsend (c : Dev nD) (st : Fin 4) (s : Fin 15) : Ctx val K ⊢ reached ER (sendCell c st s) 0 :=
  Ctx_reached val K (c, some (false, st, s))
omit [FloatOps F] in
/-- The context knows that a receive cell is in its first round. -/
theorem Ctx_rrecv (c : Dev nD) (st : Fin 4) (s : Fin 15) : Ctx val K ⊢ reached ER (recvCell c st s) 0 :=
  Ctx_reached val K (c, some (true, st, s))
omit [FloatOps F] in
/-- The context has the levels of the cells. -/
theorem Ctx_lev : Ctx val K ⊢ levAts L lv := by
  unfold Ctx
  iintro ⟨-, -, H⟩; iexact H

/-- What core `c` owes, whatever it has waited for. -/
def owe (c : Dev nD) (O : CellTallies nD τ sig Unit) : sProp 𝕄 := iprop(∃ W, owes (c : Thread nD τ) O W)

/-- Core `c` runs `p` to `Q`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Loads and stores of the slots -/

variable (c : Dev nD) (st : Fin 4)

/-- Reading a landing slot. -/
theorem loadC_wp (s : Fin 15) (X : Vec F S1x256x512 .bf16) (Q : Vec F S1x256x512 .bf16 → sProp 𝕄) :
    iprop(cHas c st s X ∗ (cHas c st s X -∗ Q X)) ⊢ WP c (loadC st s) Q := by
  unfold cHas cPts loadC Prog.lift
  iintro ⟨⟨%f, %hf, Hp⟩, HQ⟩
  iapply (wp_load_rect Variants.none (c : Thread nD τ) none Set.univ (m := cbuf st) (r := cRect s) (cView_set st s).ge) $$ Hp
  iintro Hp
  rw [wp_ret]; imodintro
  have e : ((cbuf st).access (cRect s)).read (Elt F) f = X := hf
  rw [e]
  iapply HQ
  iexists f
  isplitr; · (ipureintro; exact hf)
  iexact Hp

/-- Filling a send slot. -/
theorem putS_wp (j : Fin 2) (v : FVec F S1x256x512 .bf16) (Q : PUnit → sProp 𝕄) :
    iprop(sFree c st j ∗ (sHas c st j v -∗ Q ⟨⟩)) ⊢ WP c (putS st j v) Q := by
  unfold sFree sHas sPts putS loadS storeS
  simp only [Prog.lift, Prog.bind_op, Prog.bind_ret]
  iintro ⟨⟨%f, Hp⟩, HQ⟩
  iapply (wp_load_rect Variants.none (c : Thread nD τ) none Set.univ (m := sbuf st) (r := sRect j) (sView_set st j).ge) $$ Hp
  iintro Hp
  iapply (wp_store Variants.none (c : Thread nD τ) none Set.univ (m := sbuf st) (r := sRect j) (Mk := Finset.univ)
    (S := (sView st j).view.set) (by rw [View.setOn_univ]; exact (sView_set st j).ge)) $$ Hp
  iintro Hp
  rw [wp_ret]; imodintro
  iapply HQ
  iexists _
  isplitr
  rotate_left
  · iexact Hp
  ipureintro
  exact View.read_write_univ (v := (sbuf st).access (sRect j)) (Val := Elt F) f v

/-! ## Waits and transfers -/

/-- A hop not yet received: its credit and the position. -/
def recvTodo (s : Fin 15) : sProp 𝕄 := iprop(cred (tallyAt (recvCell c st s) () N) ∗ atPos ER (recvCell c st s) 0 ∅ 0)
/-- A hop not yet sent: the position, the duties at both ends, and the slot it lands in. -/
def sendTodo (s : Fin 15) : sProp 𝕄 :=
  iprop(atPos ER (sendCell c st s) 0 ∅ 0 ∗ dutyTok ER (sendCell c st s) 0 false ∗ dutyTok ER (recvCell (dst st c) st s) 0 false
    ∗ cFree (dst st c) st s)
/-- A hop in flight. -/
def sendFly (s : Fin 15) : sProp 𝕄 := iprop(cred (tallyAt (sendCell c st s) () N) ∗ atPos ER (sendCell c st s) 0 ∅ 0)

omit [FloatOps F] in
/-- A device may wait for hop `s` while it owes later hops only. -/
theorem mayWait_recv (s : Fin 15) (k : Fin 4 → ℕ) (hk : ∀ st', s.val + 1 ≤ k st') :
    (levAts L lv : sProp 𝕄) ⊢ MayWait (c : Thread nD τ) (.dma (recvSem st s)) () (oweS c k) :=
  mayWait c _ (2 + s.val) (by rw [lvOf_recv]) _ (oweS_above c k (2 + s.val) fun st' => by have := hk st'; omega)

omit [FloatOps F] in
/-- A device may wait for its own transfers at any time. -/
theorem mayWait_send (s : Fin 15) (k : Fin 4 → ℕ) :
    (levAts L lv : sProp 𝕄) ⊢ MayWait (c : Thread nD τ) (.dma (sendSem st s)) () (oweS c k) :=
  mayWait c _ 0 (by rw [lvOf_send]) _ (oweS_above c k 0 fun _ => Nat.zero_le _)

/-- Waiting for a hop to land: the slot with what the other device sent, and the semaphore at zero. -/
theorem waitRecv_wp (s : Fin 15) (k : Fin 4 → ℕ) (hk : ∀ st', s.val + 1 ≤ k st') (Q : PUnit → sProp 𝕄) :
    iprop(Ctx val K ∗ recvTodo c st s ∗ owe c (oweS c k)
        ∗ ((owe c (oweS c k) ∗ semVal (recvCell c st s) 0 ∗ cHas c st s (val (src st c) st s.val)) -∗ Q ⟨⟩))
      ⊢ WP c (waitRecv st s) Q := by
  unfold recvTodo owe waitRecv Prog.lift
  iintro ⟨#Hctx, ⟨Hc, Hat⟩, ⟨%W, HO⟩, HQ⟩
  iapply (Rounds.wp_wait_rest_token Variants.none ER (Rd val) (c : Thread nD τ) none (κ := K (c, some (true, st, s)))
      (wpE_waitDma2_eq Variants.none (c : Thread nD τ) none Set.univ) (Set.mem_univ _) () (O := oweS c k) (W := W) (R := 0) (m := 0) (T := ∅)
      (by rw [Nat.zero_add, expect_recv])) $$ [Hc HO Hat]
  · isplitr; · iapply (Ctx_recv val K c st s); iexact Hctx
    isplitl [Hc]; · rw [credit_c]; iexact Hc
    isplitl [HO]; · iexact HO
    isplitr
    · iapply ((Ctx_lev val K).trans (mayWait_recv c st s k hk)); iexact Hctx
    iexact Hat
  iintro ⟨HO, Hat, -, Hpay⟩
  ihave Hp := (Entails.of_eq (rest_recv val c st s)) $$ Hpay
  rw [wp_ret]
  imod (Rounds.cell_close ER (Rd val) (Set.mem_univ (K (c, some (true, st, s)))) (fun h => h) (R := 0 + 1)
    (duties_later val (recvCell c st s))) $$ [Hat] with Hz
  · isplitr; · iapply (Ctx_recv val K c st s); iexact Hctx
    iexact Hat
  imodintro
  iapply HQ
  isplitl [HO]; · iexists _; iexact HO
  isplitl [Hz]; · iexact Hz
  iexact Hp

/-- Waiting for a transfer to have left: the send slot back, and the semaphore at zero. -/
theorem waitSend_wp (s : Fin 15) (k : Fin 4 → ℕ) (Q : PUnit → sProp 𝕄) :
    iprop(Ctx val K ∗ sendFly c st s ∗ owe c (oweS c k)
        ∗ ((owe c (oweS c k) ∗ semVal (sendCell c st s) 0 ∗ sFree c st (par s.val)) -∗ Q ⟨⟩))
      ⊢ WP c (waitSend st s) Q := by
  unfold sendFly owe waitSend Prog.lift
  iintro ⟨#Hctx, ⟨Hc, Hat⟩, ⟨%W, HO⟩, HQ⟩
  iapply (Rounds.wp_wait_rest_token Variants.none ER (Rd val) (c : Thread nD τ) none (κ := K (c, some (false, st, s)))
      (wpE_waitDma2_eq Variants.none (c : Thread nD τ) none Set.univ) (Set.mem_univ _) () (O := oweS c k) (W := W) (R := 0) (m := 0) (T := ∅)
      (by rw [Nat.zero_add, expect_send])) $$ [Hc HO Hat]
  · isplitr; · iapply (Ctx_send val K c st s); iexact Hctx
    isplitl [Hc]; · rw [credit_s]; iexact Hc
    isplitl [HO]; · iexact HO
    isplitr
    · iapply ((Ctx_lev val K).trans (mayWait_send c st s k)); iexact Hctx
    iexact Hat
  iintro ⟨HO, Hat, -, Hpay⟩
  ihave Hp := (Entails.of_eq (rest_send val c st s)) $$ Hpay
  rw [wp_ret]
  imod (Rounds.cell_close ER (Rd val) (Set.mem_univ (K (c, some (false, st, s)))) (fun h => h) (R := 0 + 1)
    (duties_later val (sendCell c st s))) $$ [Hat] with Hz
  · isplitr; · iapply (Ctx_send val K c st s); iexact Hctx
    iexact Hat
  imodintro
  iapply HQ
  isplitl [HO]; · iexists _; iexact HO
  isplitl [Hz]; · iexact Hz
  iexact Hp

omit [FloatOps F] in
/-- What a transfer leaves in the landing slot is what the send slot held. -/
theorem landed_intro (s : Fin 15) (j : Fin 2) (X : Vec F S1x256x512 .bf16) (n : Dev nD)
    (fd : Buf (Elt F) ((cView st s).view.loc (n : Thread nD τ))) (fs : Buf (Elt F) ((sView st j).view.loc (c : Thread nD τ)))
    (hX : (sbuf st).view.readAt (Elt F) (sRect j).toLoadRect fs = X) :
    ((cView st s).view.loc (n : Thread nD τ) ↦[(cView st s).view.set]{fullShare}
        ((cView st s).view.write (Elt F) fd ((sView st j).view.read (Elt F) fs) Finset.univ) : sProp 𝕄) ⊢ cHas n st s X := by
  unfold cHas cPts
  iintro H
  iexists _
  isplitr
  rotate_left
  · iexact H
  ipureintro
  exact (read_landed st s j fd fs).trans hX

/-- Starting a hop, the transfer addressed to `n`, the stream's destination. -/
theorem sendTo_wp (s : Fin 15) (k : Fin 4 → ℕ) (hk : k st = s.val) (n : Dev nD) (hn : n = dst st c)
    {hsc : (cView st s : Memref sig (Dev.tc n : Thread nD τ).2.kind .vmem S256x512 .bf16).view.ref.isScScratch = false}
    {hsrc : (sView st (par s.val)).view.WordExact} {hdst : (cView st s).view.WordExact}
    {hsem : DmaTarget.Typed .vmem (.dma (recvSem st s)) (.remote (Dev.tc n : Thread nD τ) (cView st s) (.dma (sendSem st s)) hsc)}
    (Q : PUnit → sProp 𝕄) :
    iprop(Ctx val K ∗ sendTodo c st s ∗ sHas c st (par s.val) (val c st s.val) ∗ owe c (oweS c k)
        ∗ ((sendFly c st s ∗ owe c (oweS c (Function.update k st (s.val + 1)))) -∗ Q ⟨⟩))
      ⊢ WP c (.op (.enqueueDma (sView st (par s.val)) (.remote (Dev.tc n : Thread nD τ) (cView st s) (.dma (sendSem st s)) hsc)
          (.dma (recvSem st s)) hsrc hdst hsem) .ret) Q := by
  subst hn
  unfold sendTodo sHas cFree owe
  iintro ⟨#Hctx, ⟨Hat, HtS, HtV, ⟨%fd, Hd⟩⟩, ⟨%fs, %hfs, Hs⟩, ⟨%W, HO⟩, HQ⟩
  unfold cPts sPts
  iapply (Rounds.wp_send_pointsTo Variants.none ER (Rd val) (c : Thread nD τ) none (κ₁ := K (c, some (false, st, s)))
    (κ₂ := K (dst st c, some (true, st, s))) (r₁ := 0) (r₂ := 0) (d₁ := false) (d₂ := false) (fs := fs) (fd := fd)
    (by rw [duties_send val c st s]; exact Finset.mem_singleton_self _)
    (by rw [duties_recv val (dst st c) st s]; exact Finset.mem_singleton_self _)
    () () N (by exact credit_c st s) (by rfl) (by rfl) (oweS c (Function.update k st (s.val + 1))) (oweS_peel c k st s hk) (W := W)
    (by
      rw [payload_send val c st s]; unfold sFree sPts
      iintro H; iexists fs; iexact H)
    (by
      rw [payload_recv val (dst st c) st s, Equiv.symm_apply_apply]
      exact landed_intro c st s (par s.val) _ (dst st c) fd fs hfs)) $$ [Hs Hd HO HtS HtV]
  · isplitr; · iapply (Ctx_send val K c st s); iexact Hctx
    isplitr; · iapply (Ctx_recv val K (dst st c) st s); iexact Hctx
    isplitl [Hs]; · iexact Hs
    isplitl [Hd]; · iexact Hd
    isplitl [HO]; · iexact HO
    isplitl [HtS]; · iexact HtS
    isplitr; · iapply (Ctx_rsend val K c st s); iexact Hctx
    isplitl [HtV]; · iexact HtV
    iapply (Ctx_rrecv val K (dst st c) st s); iexact Hctx
  iintro ⟨Hc, HO⟩
  rw [wp_ret]; imodintro
  iapply HQ
  unfold sendFly
  isplitl [Hc Hat]
  · isplitl [Hc] <;> iassumption
  iexists _; iexact HO

/-- Starting a hop. -/
theorem sendHop_wp (s : Fin 15) (k : Fin 4 → ℕ) (hk : k st = s.val) (Q : PUnit → sProp 𝕄) :
    iprop(Ctx val K ∗ sendTodo c st s ∗ sHas c st (par s.val) (val c st s.val) ∗ owe c (oweS c k)
        ∗ ((sendFly c st s ∗ owe c (oweS c (Function.update k st (s.val + 1)))) -∗ Q ⟨⟩))
      ⊢ WP c (sendHop c st s) Q := by
  unfold sendHop Prog.lift
  exact sendTo_wp val K c st s k hk _ (tgt_eq c st) Q

end Cert.KernelIdeal.Ring

end
-- ==== Proof.KI.Hops.lean ====
/-
# The hops of the ring

What one device does between the entry handshake and the end: the values it sends, one rule per hop, and the induction
over the fourteen hops in the middle. A stream before hop `s` holds: the hops received so far, their semaphores at zero
and their slots free; the transfers that have left; at most one transfer in flight; the rest still to do.
-/
module

public import proofs.«01_k».proof.Proof.KI.Steps

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs in sequence -/

/-- A program then another. -/
theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p fun a => WP c (k a) Q := wp_bind _ _ _ p k Q

/-- A program that does nothing. -/
theorem WP_pure (c : Dev nD) {α : Type} (a : α) (Q : α → sProp 𝕄) :
    WP c (pure a : Prog (TpuEff nD τ sig (Elt F) Λ₀ .tc) α) Q = iprop(|={Set.univ}=> Q a) := rfl

/-! ## The values -/

/-- The contents of a staging buffer of `x`. -/
abbrev XT (F : FTy → Type) : Type := (cc0_stg0_0 : Ref sig .tc).ty.Contents (Elt F)
/-- The contents of a staging buffer of `w`. -/
abbrev WT (F : FTy → Type) : Type := (cc0_stg1_0 : Ref sig .tc).ty.Contents (Elt F)
/-- The contents of a staging buffer of the result. -/
abbrev OT (F : FTy → Type) : Type := (cc0_stg4_0 : Ref sig .tc).ty.Contents (Elt F)

/-- The rows of `x` with offset `r` round the ring. -/
abbrev xRect (c : Dev nD) (r : Fin 17) : Rect S4096x256 :=
  Rect.unit (s := S4096x256) (k0_off1 c (BitVec.ofNat 32 r.val)) S256x256.size (k0_off1_inb c r)

/-- The rows of `x` with offset `r`, read. -/
def xrow (c : Dev nD) (r : Fin 17) (f : XT F) : Vec F S256x256 .fp8e4m3 :=
  ((Memref.whole cc0_stg0_0 : Memref sig .tc .vmem S4096x256 .fp8e4m3).access (xRect c r)).read (Elt F) f

/-- The columns of `w` of a stream, read. -/
def wcol (st : Fin 4) (f : WT F) : Vec F S256x512 .fp8e5m2 :=
  ((Memref.whole cc0_stg1_0 : Memref sig .tc .vmem S256x2048 .fp8e5m2).access (wRect st)).read (Elt F) f

/-- The row offset whose product streams 0 and 1 add at hop `s`. -/
def rowR (s : ℕ) : Fin 17 := ⟨(14 - s) % 17, Nat.mod_lt _ (by decide)⟩
/-- The row offset whose product streams 2 and 3 add at hop `s`. -/
def rowL (s : ℕ) : Fin 17 := ⟨(s + 2) % 17, Nat.mod_lt _ (by decide)⟩

variable (X : Dev nD → XT F) (Y : Dev nD → WT F)

/-- The product device `c` adds to what hop `s` of stream `st` brings. -/
def prd (c : Dev nD) (s : ℕ) (st : Fin 4) : FVec F S256x512 .f32 :=
  dotP (pick (xrow c (rowR s) (X c)) (xrow c (rowL s) (X c)) st) (wcol st (Y c))

/-- The product device `c` sends first. -/
def prd0 (c : Dev nD) (st : Fin 4) : FVec F S256x512 .f32 :=
  dotP (pick (xrow c 15 (X c)) (xrow c 1 (X c)) st) (wcol st (Y c))

/-- What device `c` sends at hop `s` of stream `st`. -/
def sentV (c : Dev nD) (st : Fin 4) : ℕ → Vec F S1x256x512 .bf16
  | 0 => packV (prd0 X Y c st)
  | s + 1 => packV (accV (sentV (src st c) st s) (prd X Y c s st))

/-- What device `c` sends on stream `st` at hop `s`, as the protocol's table of values. -/
abbrev sent : Sent F := fun c st s => sentV X Y c st s

/-- The result of stream `st` on device `c`, at scale `z`. -/
def resV (z : F .f32) (c : Dev nD) (st : Fin 4) : FVec F S256x512 .f32 :=
  finV z (prd X Y c 14 st) (sentV X Y (src st c) st 14)

/-! ## Families over the fifteen hops -/

omit [FloatOps F] in
/-- One member of a family is taken out and put back changed. -/
theorem take_one {I : Type} [Fintype I] [DecidableEq I] {Φ Ψ : I → sProp 𝕄} {A B : sProp 𝕄} (i : I)
    (hA : Φ i = A) (hB : Ψ i = B) (h : ∀ j, j ≠ i → Ψ j = Φ j) :
    bigSep Finset.univ Φ ⊢ iprop(A ∗ (B -∗ bigSep Finset.univ Ψ)) := by
  subst hA; subst hB
  exact bigSep_univ_update i h

variable (c : Dev nD) (st : Fin 4)

/-- The receive side, the hops before `n` done. -/
def RecvF (n : ℕ) : sProp 𝕄 :=
  bigSep Finset.univ fun s : Fin 15 => if s.val < n then iprop(semVal (recvCell c st s) 0 ∗ cFree c st s) else recvTodo c st s

/-- The send side: the hops before `d` have left, those before `k` are sent. -/
def SendF (k d : ℕ) : sProp 𝕄 :=
  bigSep Finset.univ fun s : Fin 15 =>
    if s.val < d then semVal (sendCell c st s) 0 else if s.val < k then sendFly c st s else sendTodo c st s

omit [FloatOps F] in
/-- The next receive can be taken out and put back done. -/
theorem RecvF_step (s : Fin 15) :
    (RecvF c st s.val : sProp 𝕄)
      ⊢ iprop(recvTodo c st s ∗ ((semVal (recvCell c st s) 0 ∗ cFree c st s) -∗ RecvF c st (s.val + 1))) :=
  take_one s (if_neg (lt_irrefl _)) (if_pos (Nat.lt_succ_self _)) fun j hj => by
    have : j.val ≠ s.val := fun e => hj (Fin.ext e)
    by_cases h : j.val < s.val
    · rw [if_pos h, if_pos (by omega)]
    · rw [if_neg h, if_neg (by omega)]

omit [FloatOps F] in
/-- The next hop to send can be taken out and put back in flight. -/
theorem SendF_send (s : Fin 15) (d : ℕ) (hd : d ≤ s.val) :
    (SendF c st s.val d : sProp 𝕄) ⊢ iprop(sendTodo c st s ∗ (sendFly c st s -∗ SendF c st (s.val + 1) d)) :=
  take_one s (by rw [if_neg (by omega), if_neg (lt_irrefl _)]) (by rw [if_neg (by omega), if_pos (Nat.lt_succ_self _)]) fun j hj => by
    have : j.val ≠ s.val := fun e => hj (Fin.ext e)
    by_cases h : j.val < d
    · rw [if_pos h, if_pos h]
    · rw [if_neg h, if_neg h]
      by_cases h' : j.val < s.val
      · rw [if_pos h', if_pos (by omega)]
      · rw [if_neg h', if_neg (by omega)]

omit [FloatOps F] in
/-- The oldest hop in flight can be taken out and put back as having left. -/
theorem SendF_left (s : Fin 15) (k : ℕ) (hk : s.val < k) :
    (SendF c st k s.val : sProp 𝕄) ⊢ iprop(sendFly c st s ∗ (semVal (sendCell c st s) 0 -∗ SendF c st k (s.val + 1))) :=
  take_one s (by rw [if_neg (lt_irrefl _), if_pos hk]) (if_pos (Nat.lt_succ_self _)) fun j hj => by
    have : j.val ≠ s.val := fun e => hj (Fin.ext e)
    by_cases h : j.val < s.val
    · rw [if_pos h, if_pos (by omega)]
    · rw [if_neg h, if_neg (by omega)]

/-- The send slot that is free before hop `s` and no transfer's: slot 1 before the first. -/
def Slots : ℕ → sProp 𝕄
  | 0 => sFree c st 1
  | _ + 1 => iprop(emp)

/-- A stream before hop `s`. -/
def St (s : ℕ) : sProp 𝕄 := iprop(RecvF c st s ∗ SendF c st (s + 1) (s - 1) ∗ Slots c st s)

omit [FloatOps F] in
/-- A landing slot holding a known value holds something. -/
theorem cHas_free (s : Fin 15) (V : Vec F S1x256x512 .bf16) : (cHas c st s V : sProp 𝕄) ⊢ cFree c st s := by
  unfold cHas cFree
  iintro ⟨%f, -, H⟩
  iexists f; iexact H

/-! ## One hop of one stream -/

variable (K : Dev nD × Option Key → ℕ)

/-- Before a send slot is filled again it is free. -/
theorem waitPrev_wp (val : Sent F) (s : ℕ) (h : s < 14) (k : Fin 4 → ℕ) (Q : PUnit → sProp 𝕄) :
    iprop(Ctx val K ∗ SendF c st (s + 1) (s - 1) ∗ Slots c st s ∗ owe c (oweS c k)
        ∗ ((SendF c st (s + 1) s ∗ sFree c st (par (s + 1)) ∗ owe c (oweS c k)) -∗ Q ⟨⟩))
      ⊢ WP c (waitPrev st s h) Q := by
  match s, h with
  | 0, h =>
    unfold waitPrev Slots
    iintro ⟨-, HF, HS, HO, HQ⟩
    rw [WP_pure]; imodintro
    iapply HQ
    isplitl [HF]; · iexact HF
    isplitl [HS]; · iexact HS
    iexact HO
  | t + 1, h =>
    unfold waitPrev Slots
    have ht : t < 15 := by omega
    rw [Nat.add_sub_cancel]
    iintro ⟨Hctx, HF, -, HO, HQ⟩
    ihave HF' := (SendF_left (F := F) c st ⟨t, ht⟩ (t + 1 + 1) (by show t < t + 1 + 1; omega)) $$ HF
    icases HF' with ⟨Hf, Hback⟩
    iapply (waitSend_wp val K c st ⟨t, ht⟩ k)
    isplitl [Hctx]; · iexact Hctx
    isplitl [Hf]; · iexact Hf
    isplitl [HO]; · iexact HO
    iintro ⟨HO, Hz, Hs⟩
    iapply HQ
    isplitl [Hback Hz]; · iapply Hback; iexact Hz
    isplitl [Hs]
    · rw [show par (t + 1 + 1) = par t from Fin.ext (by show (t + 2) % 2 = t % 2; omega)]; iexact Hs
    iexact HO

/-- One hop of one stream. -/
theorem hop1_wp (s : ℕ) (h : s < 14) (k : Fin 4 → ℕ) (hk : k st = s + 1) (hk' : ∀ st', s + 1 ≤ k st') (Q : PUnit → sProp 𝕄) :
    iprop(Ctx (sent X Y) K ∗ St c st s ∗ owe c (oweS c k)
        ∗ ((St c st (s + 1) ∗ owe c (oweS c (Function.update k st (s + 2)))) -∗ Q ⟨⟩))
      ⊢ WP c (hop1 c (prd X Y c s) s h st) Q := by
  have hs : s < 15 := by omega
  have hs' : s + 1 < 15 := by omega
  unfold St hop1
  iintro ⟨#Hctx, ⟨HR, HF, HS⟩, HO, HQ⟩
  ihave HR' := (RecvF_step (F := F) c st ⟨s, hs⟩) $$ HR
  icases HR' with ⟨Ht, HRb⟩
  rw [WP_bind]
  iapply (waitRecv_wp (sent X Y) K c st ⟨s, hs⟩ k hk')
  isplitr; · iexact Hctx
  isplitl [Ht]; · iexact Ht
  isplitl [HO]; · iexact HO
  iintro ⟨HO, Hz, Hc⟩
  rw [WP_bind]
  iapply (loadC_wp c st ⟨s, hs⟩)
  isplitl [Hc]; · iexact Hc
  iintro Hc
  ihave Hc' := (cHas_free (F := F) c st _ _) $$ Hc
  rw [WP_bind]
  iapply (waitPrev_wp c st K (sent X Y) s h k)
  isplitr; · iexact Hctx
  isplitl [HF]; · iexact HF
  isplitl [HS]; · iexact HS
  isplitl [HO]; · iexact HO
  iintro ⟨HF, HS, HO⟩
  rw [WP_bind]
  iapply (putS_wp c st (par (s + 1)))
  isplitl [HS]; · iexact HS
  iintro HS
  ihave HF' := (SendF_send (F := F) c st ⟨s + 1, hs'⟩ s (Nat.le_succ s)) $$ HF
  icases HF' with ⟨Hto, HFb⟩
  iapply (sendHop_wp (sent X Y) K c st ⟨s + 1, hs'⟩ k hk)
  isplitr; · iexact Hctx
  isplitl [Hto]; · iexact Hto
  isplitl [HS]; · iexact HS
  isplitl [HO]; · iexact HO
  iintro ⟨Hfly, HO⟩
  iapply HQ
  isplitl [HRb Hz Hc' HFb Hfly]
  · isplitl [HRb Hz Hc']
    · iapply HRb
      isplitl [Hz]; · iexact Hz
      iexact Hc'
    isplitl [HFb Hfly]
    · iapply HFb; iexact Hfly
    unfold Slots; iempintro
  iexact HO

/-- The four streams before hop `s`. -/
def Sts (s : ℕ) : sProp 𝕄 := iprop(St c 0 s ∗ St c 1 s ∗ St c 2 s ∗ St c 3 s)

/-- Four updates, one per stream, in the order the kernel takes the streams. -/
theorem upd_hop (a b : ℕ) :
    Function.update (Function.update (Function.update (Function.update (fun _ : Fin 4 => a) 0 b) 2 b) 1 b) 3 b = fun _ => b := by
  funext i; fin_cases i <;> rfl

/-- A lower bound of all counts stays one when one count is raised. -/
theorem le_upd {k : Fin 4 → ℕ} {n : ℕ} (h : ∀ i, n ≤ k i) (j : Fin 4) {b : ℕ} (hb : n ≤ b) : ∀ i, n ≤ Function.update k j b i := fun i => by
  by_cases e : i = j
  · subst e; rw [Function.update_self]; exact hb
  · rw [Function.update_of_ne e]; exact h i

/-- One hop of all the streams. -/
theorem hop_wp (s : ℕ) (h : s < 14) (Q : PUnit → sProp 𝕄) :
    iprop(Ctx (sent X Y) K ∗ Sts c s ∗ owe c (oweS c fun _ => s + 1)
        ∗ ((Sts c (s + 1) ∗ owe c (oweS c fun _ => s + 2)) -∗ Q ⟨⟩))
      ⊢ WP c (hop c (prd X Y c s) s h) Q := by
  unfold Sts hop
  let k0 : Fin 4 → ℕ := fun _ => s + 1
  let k1 := Function.update k0 0 (s + 2)
  let k2 := Function.update k1 2 (s + 2)
  let k3 := Function.update k2 1 (s + 2)
  have h0 : ∀ i, s + 1 ≤ k0 i := fun _ => le_refl _
  have h1 : ∀ i, s + 1 ≤ k1 i := le_upd h0 0 (Nat.le_succ _)
  have h2 : ∀ i, s + 1 ≤ k2 i := le_upd h1 2 (Nat.le_succ _)
  have h3 : ∀ i, s + 1 ≤ k3 i := le_upd h2 1 (Nat.le_succ _)
  iintro ⟨#Hctx, ⟨H0, H1, H2, H3⟩, HO, HQ⟩
  rw [WP_bind]
  iapply (hop1_wp X Y c 0 K s h k0 rfl h0)
  isplitr; · iexact Hctx
  isplitl [H0]; · iexact H0
  isplitl [HO]; · iexact HO
  iintro ⟨H0, HO⟩
  rw [WP_bind]
  iapply (hop1_wp X Y c 2 K s h k1 rfl h1)
  isplitr; · iexact Hctx
  isplitl [H2]; · iexact H2
  isplitl [HO]; · iexact HO
  iintro ⟨H2, HO⟩
  rw [WP_bind]
  iapply (hop1_wp X Y c 1 K s h k2 rfl h2)
  isplitr; · iexact Hctx
  isplitl [H1]; · iexact H1
  isplitl [HO]; · iexact HO
  iintro ⟨H1, HO⟩
  iapply (hop1_wp X Y c 3 K s h k3 rfl h3)
  isplitr; · iexact Hctx
  isplitl [H3]; · iexact H3
  isplitl [HO]; · iexact HO
  iintro ⟨H3, HO⟩
  iapply HQ
  isplitl [H0 H1 H2 H3]
  · isplitl [H0]; · iexact H0
    isplitl [H1]; · iexact H1
    isplitl [H2] <;> iassumption
  rw [← upd_hop (s + 1) (s + 2)]; iexact HO

/-! ## The products -/

/-- The staging buffer of `x` on device `c`. -/
def xPts : sProp 𝕄 := ((c : Thread nD τ).loc cc0_stg0_0) ↦{fullShare} (X c)

/-- Reading rows of `x`. -/
theorem loadX_wp (r : Fin 17) (Q : Vec F S256x256 .fp8e4m3 → sProp 𝕄) :
    iprop(xPts X c ∗ (xPts X c -∗ Q (xrow c r (X c)))) ⊢ WP c (loadX c r) Q := by
  unfold xPts loadX Prog.lift xrow
  iintro ⟨Hp, HQ⟩
  iapply (wp_load_rect Variants.none (c : Thread nD τ) none Set.univ (m := Memref.whole cc0_stg0_0) (r := xRect c r) (Finset.subset_univ _)) $$ Hp
  iintro Hp
  rw [wp_ret]; imodintro
  iapply HQ; iexact Hp

/-- The products of one hop. -/
theorem partials_wp (r r' : Fin 17) (Q : (Fin 4 → FVec F S256x512 .f32) → sProp 𝕄) :
    iprop(xPts X c ∗ (xPts X c -∗ Q fun st => dotP (pick (xrow c r (X c)) (xrow c r' (X c)) st) (wcol st (Y c))))
      ⊢ WP c (partials c (fun st => wcol st (Y c)) r r') Q := by
  unfold partials
  iintro ⟨Hp, HQ⟩
  rw [WP_bind]
  iapply (loadX_wp X c r)
  isplitl [Hp]; · iexact Hp
  iintro Hp
  rw [WP_bind]
  iapply (loadX_wp X c r')
  isplitl [Hp]; · iexact Hp
  iintro Hp
  rw [WP_pure]; imodintro
  iapply HQ; iexact Hp

/-- The hops from `s` on. -/
theorem hops_wp (Q : (Fin 4 → FVec F S256x512 .f32) → sProp 𝕄) :
    ∀ (n s : ℕ) (h : s + n = 14),
      iprop(Ctx (sent X Y) K ∗ Sts c s ∗ owe c (oweS c fun _ => s + 1) ∗ xPts X c
          ∗ ((Sts c 14 ∗ owe c (oweS c fun _ => 15) ∗ xPts X c) -∗ Q (prd X Y c 14)))
        ⊢ WP c (hops c (fun st => wcol st (Y c)) n s h (prd X Y c s)) Q
  | 0, s, h => by
    obtain rfl : s = 14 := h
    unfold hops
    iintro ⟨-, HS, HO, Hx, HQ⟩
    rw [WP_pure]; imodintro
    iapply HQ
    isplitl [HS]; · iexact HS
    isplitl [HO]; · iexact HO
    iexact Hx
  | n + 1, s, h => by
    have hs : s < 14 := by omega
    unfold hops
    iintro ⟨#Hctx, HS, HO, Hx, HQ⟩
    rw [WP_bind]
    iapply (hop_wp X Y c K s hs)
    isplitr; · iexact Hctx
    isplitl [HS]; · iexact HS
    isplitl [HO]; · iexact HO
    iintro ⟨HS, HO⟩
    rw [WP_bind]
    iapply (partials_wp X Y c)
    isplitl [Hx]; · iexact Hx
    iintro Hx
    have e1 : (⟨13 - s, by omega⟩ : Fin 17) = rowR (s + 1) := Fin.ext (by show 13 - s = (14 - (s + 1)) % 17; omega)
    have e2 : (⟨s + 3, by omega⟩ : Fin 17) = rowL (s + 1) := Fin.ext (by show s + 3 = (s + 1 + 2) % 17; omega)
    rw [e1, e2]
    have ih := hops_wp Q n (s + 1) (by omega)
    iapply ih
    isplitr; · iexact Hctx
    isplitl [HS]; · iexact HS
    isplitl [HO]; · iexact HO
    isplitl [Hx]; · iexact Hx
    iexact HQ

/-! ## The end -/

/-- The result buffer after one stream's columns are written. -/
def wrO (f : OT F) (v : FVec F S256x512 .f32) : OT F :=
  ((Memref.whole cc0_stg4_0 : Memref sig .tc .vmem S256x2048 .f32).access (wRect st)).write (Elt F) f v Finset.univ

/-- The staging buffer of the result on device `c`. -/
def oPts (f : OT F) : sProp 𝕄 := ((c : Thread nD τ).loc cc0_stg4_0) ↦{fullShare} f

/-- The last landing of a stream and its result. -/
theorem last1_wp (z : F .f32) (f : OT F) (Q : PUnit → sProp 𝕄) :
    iprop(Ctx (sent X Y) K ∗ RecvF c st 14 ∗ owe c (oweS c fun _ => 15) ∗ oPts c f
        ∗ ((RecvF c st 15 ∗ owe c (oweS c fun _ => 15) ∗ oPts c (wrO st f (resV X Y z c st))) -∗ Q ⟨⟩))
      ⊢ WP c (last1 z (prd X Y c 14) st) Q := by
  have h14 : 14 < 15 := by decide
  unfold last1
  iintro ⟨#Hctx, HR, HO, Ho, HQ⟩
  ihave HR' := (RecvF_step (F := F) c st ⟨14, h14⟩) $$ HR
  icases HR' with ⟨Ht, HRb⟩
  rw [WP_bind]
  iapply (waitRecv_wp (sent X Y) K c st ⟨14, h14⟩ (fun _ => 15) (fun _ => le_refl _))
  isplitr; · iexact Hctx
  isplitl [Ht]; · iexact Ht
  isplitl [HO]; · iexact HO
  iintro ⟨HO, Hz, Hc⟩
  rw [WP_bind]
  iapply (loadC_wp c st ⟨14, h14⟩)
  isplitl [Hc]; · iexact Hc
  iintro Hc
  ihave Hc' := (cHas_free (F := F) c st _ _) $$ Hc
  unfold oPts loadO storeO
  simp only [Prog.lift, Prog.bind_op, Prog.bind_ret]
  iapply (wp_load_rect Variants.none (c : Thread nD τ) none Set.univ (m := Memref.whole cc0_stg4_0) (r := wRect st) (Finset.subset_univ _)) $$ Ho
  iintro Ho
  iapply (wp_store Variants.none (c : Thread nD τ) none Set.univ (m := Memref.whole cc0_stg4_0) (r := wRect st) (Mk := Finset.univ)
    (Finset.subset_univ _)) $$ Ho
  iintro Ho
  rw [wp_ret]; imodintro
  iapply HQ
  isplitl [HRb Hz Hc']
  · iapply HRb
    isplitl [Hz]; · iexact Hz
    iexact Hc'
  isplitl [HO]; · iexact HO
  iexact Ho

/-- The last two transfers of a stream have left. -/
theorem drain1_wp (val : Sent F) (k : Fin 4 → ℕ) (Q : PUnit → sProp 𝕄) :
    iprop(Ctx val K ∗ SendF c st 15 13 ∗ owe c (oweS c k)
        ∗ ((SendF c st 15 15 ∗ sFree c st 0 ∗ sFree c st 1 ∗ owe c (oweS c k)) -∗ Q ⟨⟩))
      ⊢ WP c (drain1 st) Q := by
  have h13 : 13 < 15 := by decide
  have h14 : 14 < 15 := by decide
  unfold drain1
  iintro ⟨#Hctx, HF, HO, HQ⟩
  ihave HF' := (SendF_left (F := F) c st ⟨13, h13⟩ 15 (show 13 < 15 by decide)) $$ HF
  icases HF' with ⟨Hf, Hback⟩
  rw [WP_bind]
  iapply (waitSend_wp val K c st ⟨13, h13⟩ k)
  isplitr; · iexact Hctx
  isplitl [Hf]; · iexact Hf
  isplitl [HO]; · iexact HO
  iintro ⟨HO, Hz, Hs1⟩
  ihave HF := Hback $$ Hz
  ihave HF' := (SendF_left (F := F) c st ⟨14, h14⟩ 15 (Nat.lt_succ_self _)) $$ HF
  icases HF' with ⟨Hf, Hback⟩
  iapply (waitSend_wp val K c st ⟨14, h14⟩ k)
  isplitr; · iexact Hctx
  isplitl [Hf]; · iexact Hf
  isplitl [HO]; · iexact HO
  iintro ⟨HO, Hz, Hs0⟩
  iapply HQ
  isplitl [Hback Hz]; · iapply Hback; iexact Hz
  isplitl [Hs0]; · iapply (Entails.of_eq (congrArg (sFree (F := F) c st) (show par 14 = 0 from rfl))); iexact Hs0
  isplitl [Hs1]; · iapply (Entails.of_eq (congrArg (sFree (F := F) c st) (show par 13 = 1 from rfl))); iexact Hs1
  iexact HO

end Cert.KernelIdeal.Ring

end
-- ==== Proof.KI.Body.lean ====
/-
# The body of the kernel on one device

From the staged blocks and the protocol's resources to the result block: the entry handshake, the first transfers, the
hops, the last landings and the last transfers.
-/
module

public import proofs.«01_k».proof.Proof.KI.Hops

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The landing slots handed over at the handshake -/

/-- All landing slots of a stream. -/
def Lands (c : Dev nD) (st : Fin 4) : sProp 𝕄 := bigSep Finset.univ fun s : Fin 15 => cFree c st s

omit [FloatOps F] in
/-- At the barrier a device is handed, from its next neighbour, the landing slots of streams 0 and 1. -/
theorem barPay_true (c : Dev nD) : (barPay c true : sProp 𝕄) = iprop(Lands (nxt c) 0 ∗ Lands (nxt c) 1) := by
  unfold barPay Lands
  rw [bigSep_univ_two]; rfl
omit [FloatOps F] in
/-- At the barrier a device is handed, from its previous neighbour, the landing slots of streams 2 and 3. -/
theorem barPay_false (c : Dev nD) : (barPay c false : sProp 𝕄) = iprop(Lands (prv c) 2 ∗ Lands (prv c) 3) := by
  unfold barPay Lands
  rw [bigSep_univ_two]; rfl

variable (val : Sent F) (K : Dev nD × Option Key → ℕ)

omit [FloatOps F] in
/-- The context has the invariant of a device's barrier cell. -/
theorem Ctx_bar (c : Dev nD) : Ctx val K ⊢ cellInv ER (Rd val) (K (c, none)) (barCell c) := Ctx_inv val K (c, none)
omit [FloatOps F] in
/-- The context knows that a device's barrier cell is in its first round. -/
theorem Ctx_rbar (c : Dev nD) : Ctx val K ⊢ reached ER (barCell c) 0 := Ctx_reached val K (c, none)

omit [FloatOps F] in
/-- At the barrier a device owes hops only. -/
theorem mayWait_bar (c : Dev nD) : (levAts L lv : sProp 𝕄) ⊢ MayWait (c : Thread nD τ) (.reg barS) () (oweS c fun _ => 0) :=
  mayWait c _ 1 (le_refl _) _ (oweS_above c (fun _ => 0) 1 fun _ => Nat.le_refl 1)

/-- What a device brings to the handshake beside its landing slots. -/
def barTodo (c : Dev nD) : sProp 𝕄 :=
  iprop(atPos ER (barCell c) 0 ∅ 0 ∗ cred (tallyAt (barCell c) () 2)
    ∗ dutyTok ER (barCell (prv c)) 0 true ∗ dutyTok ER (barCell (nxt c)) 0 false)

/-- The entry handshake. -/
theorem handshake_wp (c : Dev nD) (Q : PUnit → sProp 𝕄) :
    iprop(Ctx val K ∗ barTodo c ∗ (Lands c 0 ∗ Lands c 1 ∗ Lands c 2 ∗ Lands c 3) ∗ owe c (O₀ c)
        ∗ ((owe c (oweS c fun _ => 0) ∗ semVal (barCell c) 0
            ∗ Lands (dst 0 c) 0 ∗ Lands (dst 1 c) 1 ∗ Lands (dst 2 c) 2 ∗ Lands (dst 3 c) 3) -∗ Q ⟨⟩))
      ⊢ WP c (handshake c) Q := by
  unfold barTodo owe handshake
  simp only [semSignalWord, semWaitWord, Prog.lift, Prog.bind_op, Prog.bind_ret]
  simp only [dev1_eq c, dev2_eq c]
  iintro ⟨#Hctx, ⟨Hat, Hcr, HtP, HtN⟩, ⟨HL0, HL1, HL2, HL3⟩, ⟨%W, HO⟩, HQ⟩
  iapply (Rounds.wp_signal Variants.none ER (Rd val) (c : Thread nD τ) none (dst := (prv c : Thread nD τ)) (κ := K (prv c, none))
      (d := true) (by rw [duties_bar]; exact Finset.mem_univ _)
      ((show (Rd val).amount (barCell (prv c)) 0 true = 1 from rfl).trans (by decide)) ()
      (oweS c (fun _ => 0) + tallyAt (barCell (nxt c)) () 1) rfl)
    $$ [HO HtP HL0 HL1]
  · isplitr; · iapply (Ctx_bar val K (prv c)); iexact Hctx
    isplitl [HO]; · iexact HO
    isplitl [HtP]; · iexact HtP
    isplitl [HL0 HL1]
    · iapply (Entails.of_eq (show iprop(Lands (F := F) c 0 ∗ Lands c 1) = (Rd val).payload (barCell (prv c)) 0 true from by
        refine (?_ : _ = barPay (prv c) true)
        rw [barPay_true, nxt_prv]))
      isplitl [HL0] <;> iassumption
    iapply (Ctx_rbar val K (prv c)); iexact Hctx
  iintro HO
  iapply (Rounds.wp_signal Variants.none ER (Rd val) (c : Thread nD τ) none (dst := (nxt c : Thread nD τ)) (κ := K (nxt c, none))
      (d := false) (by rw [duties_bar]; exact Finset.mem_univ _)
      ((show (Rd val).amount (barCell (nxt c)) 0 false = 1 from rfl).trans (by decide)) () (oweS c fun _ => 0) rfl)
    $$ [HO HtN HL2 HL3]
  · isplitr; · iapply (Ctx_bar val K (nxt c)); iexact Hctx
    isplitl [HO]; · iexact HO
    isplitl [HtN]; · iexact HtN
    isplitl [HL2 HL3]
    · iapply (Entails.of_eq (show iprop(Lands (F := F) c 2 ∗ Lands c 3) = (Rd val).payload (barCell (nxt c)) 0 false from by
        refine (?_ : _ = barPay (nxt c) false)
        rw [barPay_false, prv_nxt]))
      isplitl [HL2] <;> iassumption
    iapply (Ctx_rbar val K (nxt c)); iexact Hctx
  iintro HO
  iapply (Rounds.wp_wait_rest_token Variants.none ER (Rd val) (c : Thread nD τ) none (κ := K (c, none))
      (wpE_semWait_eq Variants.none (c : Thread nD τ) none Set.univ) (Set.mem_univ _) () (O := oweS c fun _ => 0) (W := W) (R := 0) (m := 0) (T := ∅)
      (by rw [expect_bar]; decide)) $$ [Hcr HO Hat]
  · isplitr; · iapply (Ctx_bar val K c); iexact Hctx
    isplitl [Hcr]; · iexact Hcr
    isplitl [HO]; · iexact HO
    isplitr
    · iapply ((Ctx_lev val K).trans (mayWait_bar c)); iexact Hctx
    iexact Hat
  iintro ⟨HO, Hat, -, Hpay⟩
  ihave Hp := (Entails.of_eq ((rest_bar val c).trans (by rw [barPay_true, barPay_false]))) $$ Hpay
  icases Hp with ⟨⟨H0, H1⟩, H2, H3⟩
  rw [wp_ret]
  imod (Rounds.cell_close ER (Rd val) (Set.mem_univ (K (c, none))) (fun h => h) (R := 0 + 1)
    (duties_later val (barCell c))) $$ [Hat] with Hz
  · isplitr; · iapply (Ctx_bar val K c); iexact Hctx
    iexact Hat
  imodintro
  iapply HQ
  isplitl [HO]; · iexists _; iexact HO
  isplitl [Hz]; · iexact Hz
  isplitl [H0]; · iexact H0
  isplitl [H1]; · iexact H1
  isplitl [H2]; · iexact H2
  iexact H3

/-! ## A stream at the start -/

/-- A hop not yet sent, its landing slot not yet handed over. -/
def preSend (c : Dev nD) (st : Fin 4) (s : Fin 15) : sProp 𝕄 :=
  iprop(atPos ER (sendCell c st s) 0 ∅ 0 ∗ dutyTok ER (sendCell c st s) 0 false ∗ dutyTok ER (recvCell (dst st c) st s) 0 false)

/-- The hops of a stream before the handshake. -/
def Pre (c : Dev nD) (st : Fin 4) : sProp 𝕄 :=
  iprop((bigSep Finset.univ fun s : Fin 15 => recvTodo c st s) ∗ bigSep Finset.univ fun s : Fin 15 => preSend c st s)

omit [FloatOps F] in
/-- A hop not yet sent, once its landing slot is handed over, is ready to send. -/
theorem preSend_land (c : Dev nD) (st : Fin 4) (s : Fin 15) :
    iprop(preSend c st s ∗ cFree (dst st c) st s) ⊢ (sendTodo c st s : sProp 𝕄) := by
  unfold preSend sendTodo
  iintro ⟨⟨H1, H2, H3⟩, H4⟩
  isplitl [H1]; · iexact H1
  isplitl [H2]; · iexact H2
  isplitl [H3] <;> iassumption

omit [FloatOps F] in
/-- A stream whose landing slots are all handed over has every hop ready to send. -/
theorem SendF_zero (c : Dev nD) (st : Fin 4) :
    iprop((bigSep Finset.univ fun s : Fin 15 => preSend c st s) ∗ Lands (dst st c) st) ⊢ (SendF c st 0 0 : sProp 𝕄) := by
  unfold Lands SendF
  rw [← bigSep_sep']
  refine bigSep_mono fun s _ => ?_
  rw [if_neg (Nat.not_lt_zero _), if_neg (Nat.not_lt_zero _)]
  exact preSend_land c st s

omit [FloatOps F] in
/-- Before the first receive, every hop of a stream is still to be received. -/
theorem RecvF_zero (c : Dev nD) (st : Fin 4) : (bigSep Finset.univ fun s : Fin 15 => (recvTodo c st s : sProp 𝕄)) = RecvF c st 0 := by
  unfold RecvF
  exact bigSep_congr fun s _ => (if_neg (Nat.not_lt_zero _)).symm

variable (X : Dev nD → XT F) (Y : Dev nD → WT F) (c : Dev nD)

/-- The first transfer of a stream, and the stream before hop 0. -/
theorem first_wp (st : Fin 4) (k : Fin 4 → ℕ) (hk : k st = 0) (Q : PUnit → sProp 𝕄) :
    iprop(Ctx (sent X Y) K ∗ Pre c st ∗ Lands (dst st c) st ∗ sHas c st (par 0) (sentV X Y c st 0) ∗ sFree c st 1 ∗ owe c (oweS c k)
        ∗ ((St c st 0 ∗ owe c (oweS c (Function.update k st 1))) -∗ Q ⟨⟩))
      ⊢ WP c (sendHop c st ⟨0, by omega⟩) Q := by
  have h0 : 0 < 15 := by decide
  unfold Pre
  iintro ⟨#Hctx, ⟨HR, HP⟩, HL, Hs, Hs1, HO, HQ⟩
  ihave HF := (SendF_zero (F := F) c st) $$ [HP HL]
  · isplitl [HP] <;> iassumption
  ihave HF' := (SendF_send (F := F) c st ⟨0, h0⟩ 0 (le_refl _)) $$ HF
  icases HF' with ⟨Hto, HFb⟩
  iapply (sendHop_wp (sent X Y) K c st ⟨0, h0⟩ k hk)
  isplitr; · iexact Hctx
  isplitl [Hto]; · iexact Hto
  isplitl [Hs]; · iexact Hs
  isplitl [HO]; · iexact HO
  iintro ⟨Hfly, HO⟩
  iapply HQ
  isplitl [HR HFb Hfly Hs1]
  · unfold St
    isplitl [HR]
    · rw [← RecvF_zero]; iexact HR
    isplitl [HFb Hfly]; · iapply HFb; iexact Hfly
    unfold Slots; iexact Hs1
  iexact HO

/-! ## The scales and `w` -/

/-- The contents of a staging buffer of the scale of `x`. -/
abbrev AT (F : FTy → Type) : Type := (cc0_stg2_0 : Ref sig .tc).ty.Contents (Elt F)
/-- The contents of a staging buffer of the scale of `w`. -/
abbrev BT (F : FTy → Type) : Type := (cc0_stg3_0 : Ref sig .tc).ty.Contents (Elt F)

/-- The whole of a one-element array. -/
abbrev r1 : Rect S1 := Rect.unit (s := S1) ![0] S1.size inb_S1_S1_0

/-- The scale of `x`, read. -/
def rdA (f : AT F) : F .f32 :=
  ((Memref.whole cc0_stg2_0 : Memref sig .tc .smem S1 .f32).access r1).read (Elt F) f (Shape.Idx.first (numel1_S1.symm ▸ Nat.one_pos))
/-- The scale of `w`, read. -/
def rdB (f : BT F) : F .f32 :=
  ((Memref.whole cc0_stg3_0 : Memref sig .tc .smem S1 .f32).access r1).read (Elt F) f (Shape.Idx.first (numel1_S1.symm ▸ Nat.one_pos))

variable (A : Dev nD → AT F) (B : Dev nD → BT F)

/-- The product of the two scales on device `c`. -/
def zOf : F .f32 := k0_pay17 (rdA (A c)) (rdB (B c))

/-- The staging buffer of the scale of `x`, holding `A`. -/
def aPts : sProp 𝕄 := ((c : Thread nD τ).loc cc0_stg2_0) ↦{fullShare} (A c)
/-- The staging buffer of the scale of `w`, holding `B`. -/
def bPts : sProp 𝕄 := ((c : Thread nD τ).loc cc0_stg3_0) ↦{fullShare} (B c)
/-- The staging buffer of `w`, holding `Y`. -/
def wPts : sProp 𝕄 := ((c : Thread nD τ).loc cc0_stg1_0) ↦{fullShare} (Y c)

/-- Reading the scale of `x`. -/
theorem loadA_wp (Q : F .f32 → sProp 𝕄) :
    iprop(aPts c A ∗ (aPts c A -∗ Q (rdA (A c))))
      ⊢ WP c (smemLoad (win0_2.stage (cfg0.slots t0_0 2)) (Rect.unit (s := S1) ![0] S1.size inb_S1_S1_0) numel1_S1 rfl) Q := by
  unfold aPts rdA smemLoad
  iintro ⟨Hp, HQ⟩
  iapply (wp_smemLoadElt Variants.none (c : Thread nD τ) none Set.univ (m := Memref.whole cc0_stg2_0) (r := r1) (Finset.subset_univ _)) $$ Hp
  iintro Hp
  rw [wp_ret]; imodintro
  iapply HQ; iexact Hp

/-- Reading the scale of `w`. -/
theorem loadB_wp (Q : F .f32 → sProp 𝕄) :
    iprop(bPts c B ∗ (bPts c B -∗ Q (rdB (B c))))
      ⊢ WP c (smemLoad (win0_3.stage (cfg0.slots t0_0 3)) (Rect.unit (s := S1) ![0] S1.size inb_S1_S1_0) numel1_S1 rfl) Q := by
  unfold bPts rdB smemLoad
  iintro ⟨Hp, HQ⟩
  iapply (wp_smemLoadElt Variants.none (c : Thread nD τ) none Set.univ (m := Memref.whole cc0_stg3_0) (r := r1) (Finset.subset_univ _)) $$ Hp
  iintro Hp
  rw [wp_ret]; imodintro
  iapply HQ; iexact Hp

/-- Reading the columns of `w` of a stream. -/
theorem loadW_wp (st : Fin 4) (Q : Vec F S256x512 .fp8e5m2 → sProp 𝕄) :
    iprop(wPts Y c ∗ (wPts Y c -∗ Q (wcol st (Y c)))) ⊢ WP c (loadW st) Q := by
  unfold wPts loadW Prog.lift wcol
  iintro ⟨Hp, HQ⟩
  iapply (wp_load_rect Variants.none (c : Thread nD τ) none Set.univ (m := Memref.whole cc0_stg1_0) (r := wRect st) (Finset.subset_univ _)) $$ Hp
  iintro Hp
  rw [wp_ret]; imodintro
  iapply HQ; iexact Hp

/-! ## From the handshake on -/

/-- A stream at the end. -/
def Done (st : Fin 4) : sProp 𝕄 := iprop(RecvF c st 15 ∗ SendF c st 15 15 ∗ sFree c st 0 ∗ sFree c st 1)

/-- A stream with its first value in the send slot. -/
def Ready (st : Fin 4) : sProp 𝕄 :=
  iprop(Pre c st ∗ Lands (dst st c) st ∗ sHas c st (par 0) (sentV X Y c st 0) ∗ sFree c st 1)

/-- The result block as the four streams write it over `f`. -/
def written (z : F .f32) (f : OT F) : OT F :=
  wrO 3 (wrO 1 (wrO 2 (wrO 0 f (resV X Y z c 0)) (resV X Y z c 2)) (resV X Y z c 1)) (resV X Y z c 3)

/-- Counting one hop on each of the four streams from none gives one on all. -/
theorem upd_first :
    Function.update (Function.update (Function.update (Function.update (fun _ : Fin 4 => 0) 0 1) 1 1) 2 1) 3 1 = fun _ => 0 + 1 := by
  funext i; fin_cases i <;> rfl

/-- The body from the handshake on. -/
theorem mainPart_wp (f : OT F) (Q : PUnit → sProp 𝕄) :
    iprop(Ctx (sent X Y) K ∗ (Ready X Y c 0 ∗ Ready X Y c 1 ∗ Ready X Y c 2 ∗ Ready X Y c 3) ∗ owe c (oweS c fun _ => 0)
        ∗ xPts X c ∗ aPts c A ∗ bPts c B ∗ oPts c f
        ∗ (((Done c 0 ∗ Done c 1 ∗ Done c 2 ∗ Done c 3) ∗ owe c (oweS c fun _ => 15)
            ∗ xPts X c ∗ aPts c A ∗ bPts c B ∗ oPts c (written X Y c (zOf c A B) f)) -∗ Q ⟨⟩))
      ⊢ WP c (mainPart c fun st => wcol st (Y c)) Q := by
  let k0 : Fin 4 → ℕ := fun _ => 0
  let k1 := Function.update k0 0 1
  let k2 := Function.update k1 1 1
  let k3 := Function.update k2 2 1
  unfold mainPart Ready
  iintro ⟨#Hctx, ⟨⟨P0, L0, S0, F0⟩, ⟨P1, L1, S1, F1⟩, ⟨P2, L2, S2, F2⟩, ⟨P3, L3, S3, F3⟩⟩, HO, Hx, Ha, Hb, Ho, HQ⟩
  rw [WP_bind]
  iapply (first_wp K X Y c 0 k0 rfl)
  isplitr; · iexact Hctx
  isplitl [P0]; · iexact P0
  isplitl [L0]; · iexact L0
  isplitl [S0]; · iexact S0
  isplitl [F0]; · iexact F0
  isplitl [HO]; · iexact HO
  iintro ⟨T0, HO⟩
  rw [WP_bind]
  iapply (first_wp K X Y c 1 k1 rfl)
  isplitr; · iexact Hctx
  isplitl [P1]; · iexact P1
  isplitl [L1]; · iexact L1
  isplitl [S1]; · iexact S1
  isplitl [F1]; · iexact F1
  isplitl [HO]; · iexact HO
  iintro ⟨T1, HO⟩
  rw [WP_bind]
  iapply (first_wp K X Y c 2 k2 rfl)
  isplitr; · iexact Hctx
  isplitl [P2]; · iexact P2
  isplitl [L2]; · iexact L2
  isplitl [S2]; · iexact S2
  isplitl [F2]; · iexact F2
  isplitl [HO]; · iexact HO
  iintro ⟨T2, HO⟩
  rw [WP_bind]
  iapply (first_wp K X Y c 3 k3 rfl)
  isplitr; · iexact Hctx
  isplitl [P3]; · iexact P3
  isplitl [L3]; · iexact L3
  isplitl [S3]; · iexact S3
  isplitl [F3]; · iexact F3
  isplitl [HO]; · iexact HO
  iintro ⟨T3, HO⟩
  ihave HO := (Entails.of_eq (congrArg (fun k => owe (F := F) c (oweS c k)) upd_first)) $$ HO
  rw [WP_bind]
  iapply (partials_wp X Y c 14 2)
  isplitl [Hx]; · iexact Hx
  iintro Hx
  rw [WP_bind]
  iapply (loadA_wp c A)
  isplitl [Ha]; · iexact Ha
  iintro Ha
  rw [WP_bind]
  iapply (loadB_wp c B)
  isplitl [Hb]; · iexact Hb
  iintro Hb
  rw [WP_bind]
  iapply (hops_wp X Y c K _ 14 0 rfl)
  isplitr; · iexact Hctx
  isplitl [T0 T1 T2 T3]
  · unfold Sts
    isplitl [T0]; · iexact T0
    isplitl [T1]; · iexact T1
    isplitl [T2] <;> iassumption
  isplitl [HO]; · iexact HO
  isplitl [Hx]; · iexact Hx
  unfold Sts St
  iintro ⟨⟨⟨R0, F0, -⟩, ⟨R1, F1, -⟩, ⟨R2, F2, -⟩, ⟨R3, F3, -⟩⟩, HO, Hx⟩
  rw [WP_bind]
  iapply (last1_wp X Y c 0 K (zOf c A B) f)
  isplitr; · iexact Hctx
  isplitl [R0]; · iexact R0
  isplitl [HO]; · iexact HO
  isplitl [Ho]; · iexact Ho
  iintro ⟨R0, HO, Ho⟩
  rw [WP_bind]
  iapply (last1_wp X Y c 2 K (zOf c A B))
  isplitr; · iexact Hctx
  isplitl [R2]; · iexact R2
  isplitl [HO]; · iexact HO
  isplitl [Ho]; · iexact Ho
  iintro ⟨R2, HO, Ho⟩
  rw [WP_bind]
  iapply (last1_wp X Y c 1 K (zOf c A B))
  isplitr; · iexact Hctx
  isplitl [R1]; · iexact R1
  isplitl [HO]; · iexact HO
  isplitl [Ho]; · iexact Ho
  iintro ⟨R1, HO, Ho⟩
  rw [WP_bind]
  iapply (last1_wp X Y c 3 K (zOf c A B))
  isplitr; · iexact Hctx
  isplitl [R3]; · iexact R3
  isplitl [HO]; · iexact HO
  isplitl [Ho]; · iexact Ho
  iintro ⟨R3, HO, Ho⟩
  rw [WP_bind]
  iapply (drain1_wp c 0 K (sent X Y) fun _ => 15)
  isplitr; · iexact Hctx
  isplitl [F0]; · iexact F0
  isplitl [HO]; · iexact HO
  iintro ⟨F0, E0, G0, HO⟩
  rw [WP_bind]
  iapply (drain1_wp c 1 K (sent X Y) fun _ => 15)
  isplitr; · iexact Hctx
  isplitl [F1]; · iexact F1
  isplitl [HO]; · iexact HO
  iintro ⟨F1, E1, G1, HO⟩
  rw [WP_bind]
  iapply (drain1_wp c 2 K (sent X Y) fun _ => 15)
  isplitr; · iexact Hctx
  isplitl [F2]; · iexact F2
  isplitl [HO]; · iexact HO
  iintro ⟨F2, E2, G2, HO⟩
  iapply (drain1_wp c 3 K (sent X Y) fun _ => 15)
  isplitr; · iexact Hctx
  isplitl [F3]; · iexact F3
  isplitl [HO]; · iexact HO
  iintro ⟨F3, E3, G3, HO⟩
  iapply HQ
  unfold Done
  isplitl [R0 F0 E0 G0 R1 F1 E1 G1 R2 F2 E2 G2 R3 F3 E3 G3]
  · isplitl [R0 F0 E0 G0]
    · isplitl [R0]; · iexact R0
      isplitl [F0]; · iexact F0
      isplitl [E0] <;> iassumption
    isplitl [R1 F1 E1 G1]
    · isplitl [R1]; · iexact R1
      isplitl [F1]; · iexact F1
      isplitl [E1] <;> iassumption
    isplitl [R2 F2 E2 G2]
    · isplitl [R2]; · iexact R2
      isplitl [F2]; · iexact F2
      isplitl [E2] <;> iassumption
    isplitl [R3]; · iexact R3
    isplitl [F3]; · iexact F3
    isplitl [E3] <;> iassumption
  isplitl [HO]; · iexact HO
  isplitl [Hx]; · iexact Hx
  isplitl [Ha]; · iexact Ha
  isplitl [Hb]; · iexact Hb
  iexact Ho

/-! ## The whole body -/

/-- Reading the device's own number. -/
theorem WP_device {α : Type} (k : Dev nD → Prog (TpuEff nD τ sig (Elt F) Λ₀ .tc) α) (Q : α → sProp 𝕄) :
    WP c (Prog.lift .deviceId >>= k) Q = WP c (k c) Q := by
  simp only [Prog.lift, Prog.bind_op, Prog.bind_ret, wp_deviceId]

/-- A stream before the body: its hops, its landing slots and its two send slots. -/
def Begin (st : Fin 4) : sProp 𝕄 := iprop(Pre c st ∗ Lands c st ∗ sFree c st 0 ∗ sFree c st 1)

/-- The first value of a stream in its send slot. -/
theorem ready_eq : ∀ st : Fin 4, (sHas c st (par 0) (packV (dotP (pick (xrow c 15 (X c)) (xrow c 1 (X c)) st) (wcol st (Y c)))) : sProp 𝕄)
    = sHas c st (par 0) (sentV X Y c st 0) := fun _ => rfl

/-- The whole body. -/
theorem body_wp (f : OT F) (Q : PUnit → sProp 𝕄) :
    iprop(Ctx (sent X Y) K ∗ (Begin c 0 ∗ Begin c 1 ∗ Begin c 2 ∗ Begin c 3) ∗ barTodo c ∗ owe c (O₀ c)
        ∗ xPts X c ∗ wPts Y c ∗ aPts c A ∗ bPts c B ∗ oPts c f
        ∗ (((Done c 0 ∗ Done c 1 ∗ Done c 2 ∗ Done c 3) ∗ semVal (barCell c) 0 ∗ owe c (oweS c fun _ => 15)
            ∗ xPts X c ∗ wPts Y c ∗ aPts c A ∗ bPts c B ∗ oPts c (written X Y c (zOf c A B) f)) -∗ Q ⟨⟩))
      ⊢ WP c body Q := by
  unfold body Begin
  iintro ⟨#Hctx, ⟨⟨P0, L0, S0, F0⟩, ⟨P1, L1, S1, F1⟩, ⟨P2, L2, S2, F2⟩, ⟨P3, L3, S3, F3⟩⟩, Hbar, HO, Hx, Hw, Ha, Hb, Ho, HQ⟩
  rw [WP_device, WP_bind]
  iapply (loadW_wp Y c 0)
  isplitl [Hw]; · iexact Hw
  iintro Hw
  rw [WP_bind]
  iapply (loadW_wp Y c 1)
  isplitl [Hw]; · iexact Hw
  iintro Hw
  rw [WP_bind]
  iapply (loadW_wp Y c 2)
  isplitl [Hw]; · iexact Hw
  iintro Hw
  rw [WP_bind]
  iapply (loadW_wp Y c 3)
  isplitl [Hw]; · iexact Hw
  iintro Hw
  rw [WP_bind]
  iapply (loadX_wp X c 15)
  isplitl [Hx]; · iexact Hx
  iintro Hx
  rw [WP_bind]
  iapply (loadX_wp X c 1)
  isplitl [Hx]; · iexact Hx
  iintro Hx
  rw [WP_bind]
  iapply (putS_wp c 0 (par 0))
  isplitl [S0]; · iexact S0
  iintro S0
  rw [WP_bind]
  iapply (putS_wp c 1 (par 0))
  isplitl [S1]; · iexact S1
  iintro S1
  rw [WP_bind]
  iapply (putS_wp c 2 (par 0))
  isplitl [S2]; · iexact S2
  iintro S2
  rw [WP_bind]
  iapply (putS_wp c 3 (par 0))
  isplitl [S3]; · iexact S3
  iintro S3
  rw [WP_bind]
  iapply (handshake_wp (sent X Y) K c)
  isplitr; · iexact Hctx
  isplitl [Hbar]; · iexact Hbar
  isplitl [L0 L1 L2 L3]
  · isplitl [L0]; · iexact L0
    isplitl [L1]; · iexact L1
    isplitl [L2] <;> iassumption
  isplitl [HO]; · iexact HO
  iintro ⟨HO, Hz, L0, L1, L2, L3⟩
  rw [show (four (wcol 0 (Y c)) (wcol 1 (Y c)) (wcol 2 (Y c)) (wcol 3 (Y c)) : Fin 4 → Vec F S256x512 .fp8e5m2) = fun st => wcol st (Y c) from by
    funext st; fin_cases st <;> rfl]
  iapply (mainPart_wp K X Y c A B f)
  isplitr; · iexact Hctx
  isplitl [P0 L0 S0 F0 P1 L1 S1 F1 P2 L2 S2 F2 P3 L3 S3 F3]
  · unfold Ready
    isplitl [P0 L0 S0 F0]
    · isplitl [P0]; · iexact P0
      isplitl [L0]; · iexact L0
      isplitl [S0]; · iapply (Entails.of_eq (ready_eq X Y c 0)); iexact S0
      iexact F0
    isplitl [P1 L1 S1 F1]
    · isplitl [P1]; · iexact P1
      isplitl [L1]; · iexact L1
      isplitl [S1]; · iapply (Entails.of_eq (ready_eq X Y c 1)); iexact S1
      iexact F1
    isplitl [P2 L2 S2 F2]
    · isplitl [P2]; · iexact P2
      isplitl [L2]; · iexact L2
      isplitl [S2]; · iapply (Entails.of_eq (ready_eq X Y c 2)); iexact S2
      iexact F2
    isplitl [P3]; · iexact P3
    isplitl [L3]; · iexact L3
    isplitl [S3]; · iapply (Entails.of_eq (ready_eq X Y c 3)); iexact S3
    iexact F3
  isplitl [HO]; · iexact HO
  isplitl [Hx]; · iexact Hx
  isplitl [Ha]; · iexact Ha
  isplitl [Hb]; · iexact Hb
  isplitl [Ho]; · iexact Ho
  iintro ⟨HD, HO, Hx, Ha, Hb, Ho⟩
  iapply HQ
  isplitl [HD]; · iexact HD
  isplitl [Hz]; · iexact Hz
  isplitl [HO]; · iexact HO
  isplitl [Hx]; · iexact Hx
  isplitl [Hw]; · iexact Hw
  isplitl [Ha]; · iexact Ha
  isplitl [Hb]; · iexact Hb
  iexact Ho

end Cert.KernelIdeal.Ring

end
-- ==== Proof.KI.Slots.lean ====
/-
# The scratch buffers and their slots

A landing buffer is its fifteen slots and a send buffer its two, when held whole; and the slots, all free, make the
buffer held whole again.
-/
module

public import proofs.«01_k».proof.Proof.KI.Body

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Different slots of a landing buffer share no element. -/
theorem cRect_disj (s s' : Fin 15) (h : s ≠ s') : Disjoint (cRect s).set (cRect s').set :=
  Ring.lead_disjoint (s := S15x256x512) (0 : Fin 3) 1 (fun s : Fin 15 => ![s.val, 0, 0]) S1x256x512.size inbC
    (fun b => (Nat.one_mul _).symm) rfl s s' h

/-- The slots of a landing buffer cover it. -/
theorem cRect_cover : Finset.univ.biUnion (fun s : Fin 15 => (cRect s).set) = Finset.univ :=
  Ring.lead_cover (s := S15x256x512) (0 : Fin 3) 1 (fun s : Fin 15 => ![s.val, 0, 0]) S1x256x512.size inbC
    (fun b => (Nat.one_mul _).symm) (fun b a ha => by fin_cases a <;> first | rfl | exact absurd rfl ha) rfl
    (fun a ha => by fin_cases a <;> first | rfl | exact absurd rfl ha) rfl

/-- Different slots of a send buffer share no element. -/
theorem sRect_disj (s s' : Fin 2) (h : s ≠ s') : Disjoint (sRect s).set (sRect s').set :=
  Ring.lead_disjoint (s := S2x256x512) (0 : Fin 3) 1 (fun s : Fin 2 => ![s.val, 0, 0]) S1x256x512.size inbS
    (fun b => (Nat.one_mul _).symm) rfl s s' h

/-- The slots of a send buffer cover it. -/
theorem sRect_cover : Finset.univ.biUnion (fun s : Fin 2 => (sRect s).set) = Finset.univ :=
  Ring.lead_cover (s := S2x256x512) (0 : Fin 3) 1 (fun s : Fin 2 => ![s.val, 0, 0]) S1x256x512.size inbS
    (fun b => (Nat.one_mul _).symm) (fun b a ha => by fin_cases a <;> first | rfl | exact absurd rfl ha) rfl
    (fun a ha => by fin_cases a <;> first | rfl | exact absurd rfl ha) rfl

variable (c : Dev nD)

/-- The elements of a landing slot. -/
abbrev cSet (st : Fin 4) (s : Fin 15) : Finset (Idx ((cbuf st).view.loc (c : Thread nD τ))) := (cView st s).view.set
/-- The elements of a send slot. -/
abbrev sSet (st : Fin 4) (j : Fin 2) : Finset (Idx ((sbuf st).view.loc (c : Thread nD τ))) := (sView st j).view.set

/-- The landing slots of stream 0 as rectangles. -/
theorem cSet_eq0 : cSet c 0 = fun s => (cRect s).set := funext fun s => (cView_set 0 s).trans (View.set_slice_whole cc0_scratch4 (cRect s))
/-- The landing slots of stream 1 as rectangles. -/
theorem cSet_eq1 : cSet c 1 = fun s => (cRect s).set := funext fun s => (cView_set 1 s).trans (View.set_slice_whole cc0_scratch5 (cRect s))
/-- The landing slots of stream 2 as rectangles. -/
theorem cSet_eq2 : cSet c 2 = fun s => (cRect s).set := funext fun s => (cView_set 2 s).trans (View.set_slice_whole cc0_scratch6 (cRect s))
/-- The landing slots of stream 3 as rectangles. -/
theorem cSet_eq3 : cSet c 3 = fun s => (cRect s).set := funext fun s => (cView_set 3 s).trans (View.set_slice_whole cc0_scratch7 (cRect s))

/-- The slots of a landing buffer are apart. -/
theorem cSet_disj : ∀ (st : Fin 4) (s s' : Fin 15), s ≠ s' → Disjoint (cSet c st s) (cSet c st s')
  | 0 => by rw [cSet_eq0]; exact cRect_disj
  | 1 => by rw [cSet_eq1]; exact cRect_disj
  | 2 => by rw [cSet_eq2]; exact cRect_disj
  | 3 => by rw [cSet_eq3]; exact cRect_disj

/-- The slots of a landing buffer are all of it. -/
theorem cSet_cover : ∀ (st : Fin 4), Finset.univ.biUnion (cSet c st) = Finset.univ
  | 0 => by rw [cSet_eq0]; exact cRect_cover
  | 1 => by rw [cSet_eq1]; exact cRect_cover
  | 2 => by rw [cSet_eq2]; exact cRect_cover
  | 3 => by rw [cSet_eq3]; exact cRect_cover

/-- The send slots of stream 0 as rectangles. -/
theorem sSet_eq0 : sSet c 0 = fun j => (sRect j).set := funext fun j => (sView_set 0 j).trans (View.set_slice_whole cc0_scratch0 (sRect j))
/-- The send slots of stream 1 as rectangles. -/
theorem sSet_eq1 : sSet c 1 = fun j => (sRect j).set := funext fun j => (sView_set 1 j).trans (View.set_slice_whole cc0_scratch1 (sRect j))
/-- The send slots of stream 2 as rectangles. -/
theorem sSet_eq2 : sSet c 2 = fun j => (sRect j).set := funext fun j => (sView_set 2 j).trans (View.set_slice_whole cc0_scratch2 (sRect j))
/-- The send slots of stream 3 as rectangles. -/
theorem sSet_eq3 : sSet c 3 = fun j => (sRect j).set := funext fun j => (sView_set 3 j).trans (View.set_slice_whole cc0_scratch3 (sRect j))

/-- The slots of a send buffer are apart. -/
theorem sSet_disj : ∀ (st : Fin 4) (j j' : Fin 2), j ≠ j' → Disjoint (sSet c st j) (sSet c st j')
  | 0 => by rw [sSet_eq0]; exact sRect_disj
  | 1 => by rw [sSet_eq1]; exact sRect_disj
  | 2 => by rw [sSet_eq2]; exact sRect_disj
  | 3 => by rw [sSet_eq3]; exact sRect_disj

/-- The slots of a send buffer are all of it. -/
theorem sSet_cover : ∀ (st : Fin 4), Finset.univ.biUnion (sSet c st) = Finset.univ
  | 0 => by rw [sSet_eq0]; exact sRect_cover
  | 1 => by rw [sSet_eq1]; exact sRect_cover
  | 2 => by rw [sSet_eq2]; exact sRect_cover
  | 3 => by rw [sSet_eq3]; exact sRect_cover

/-- A landing buffer held whole, at any contents. -/
def cWhole (st : Fin 4) : sProp 𝕄 :=
  iprop(∃ f : Buf (Elt F) ((cbuf st).view.loc (c : Thread nD τ)), (cbuf st).view.loc (c : Thread nD τ) ↦{fullShare} f)
/-- A send buffer held whole, at any contents. -/
def sWhole (st : Fin 4) : sProp 𝕄 :=
  iprop(∃ f : Buf (Elt F) ((sbuf st).view.loc (c : Thread nD τ)), (sbuf st).view.loc (c : Thread nD τ) ↦{fullShare} f)

omit [FloatOps F] in
/-- A landing slot with known contents holds something. -/
theorem cPts_free (st : Fin 4) (f : Buf (Elt F) ((cbuf st).view.loc (c : Thread nD τ))) (s : Fin 15) :
    ((cbuf st).view.loc (c : Thread nD τ) ↦[cSet c st s]{fullShare} f : sProp 𝕄) ⊢ cFree c st s := by
  unfold cFree cPts
  iintro H; iexists f; iexact H
omit [FloatOps F] in
/-- A send slot with known contents holds something. -/
theorem sPts_free (st : Fin 4) (f : Buf (Elt F) ((sbuf st).view.loc (c : Thread nD τ))) (j : Fin 2) :
    ((sbuf st).view.loc (c : Thread nD τ) ↦[sSet c st j]{fullShare} f : sProp 𝕄) ⊢ sFree c st j := by
  unfold sFree sPts
  iintro H; iexists f; iexact H

omit [FloatOps F] in
/-- A whole landing buffer is its slots. -/
theorem cWhole_split (st : Fin 4) : (cWhole c st : sProp 𝕄) ⊢ Lands c st := by
  unfold cWhole Lands
  iintro ⟨%f, H⟩
  iapply ((Entails.of_eq (Ring.pointsTo_blocks (cSet c st) (cSet_disj c st) (cSet_cover c st) f)).trans (bigSep_mono fun s _ => cPts_free c st f s))
  iexact H
omit [FloatOps F] in
/-- A whole send buffer is its two slots. -/
theorem sWhole_split (st : Fin 4) : (sWhole c st : sProp 𝕄) ⊢ iprop(sFree c st 0 ∗ sFree c st 1) := by
  unfold sWhole
  rw [← bigSep_univ_two (fun j : Fin 2 => (sFree c st j : sProp 𝕄))]
  iintro ⟨%f, H⟩
  iapply ((Entails.of_eq (Ring.pointsTo_blocks (sSet c st) (sSet_disj c st) (sSet_cover c st) f)).trans (bigSep_mono fun j _ => sPts_free c st f j))
  iexact H

/-- Free landing slots make the whole buffer. -/
theorem cWhole_join (st : Fin 4) : (Lands c st : sProp 𝕄) ⊢ cWhole c st := by
  unfold cWhole Lands cFree cPts
  exact Ring.pointsTo_blocks_join_exists (cSet c st) (cSet_disj c st) (cSet_cover c st) (fun _ => Classical.choice inferInstance)
/-- Two free send slots make the whole buffer. -/
theorem sWhole_join (st : Fin 4) : iprop(sFree c st 0 ∗ sFree c st 1) ⊢ (sWhole c st : sProp 𝕄) := by
  rw [← bigSep_univ_two (fun j : Fin 2 => (sFree c st j : sProp 𝕄))]
  unfold sWhole sFree sPts
  exact Ring.pointsTo_blocks_join_exists (sSet c st) (sSet_disj c st) (sSet_cover c st) (fun _ => Classical.choice inferInstance)

omit [FloatOps F] in
/-- The scratch buffers of a device. -/
theorem scratch_eq : (Pipeline.scopedRest (Ix := Unit) (Name := ℕ) (U := UU) (Lvl := ℕ) (Val := Elt F) spec0 c : sProp 𝕄)
    = iprop(sWhole c 0 ∗ sWhole c 1 ∗ sWhole c 2 ∗ sWhole c 3 ∗ cWhole c 0 ∗ cWhole c 1 ∗ cWhole c 2 ∗ cWhole c 3) :=
  scopedRest0_eq c

end Cert.KernelIdeal.Ring

end
-- ==== Proof.KI.Out.lean ====
/-
# The result block

The four streams write the four column blocks of a device's result, so whatever the staging buffer held before, it ends
at `outAt`: the entry in column `y` is that of stream `y / 512`.
-/
module

public import proofs.«01_k».proof.Proof.KI.Slots
public import Idealize.ShloMosaic.Lib.Pipeline.Value

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The stream that computes a column of the result. -/
def strmOf (y : S256x2048.Idx) : Fin 4 := ⟨(y (1 : Fin 2)).val / 512, by have : (y (1 : Fin 2)).val < 2048 := (y (1 : Fin 2)).isLt; omega⟩

/-- The place of an entry of the result within its stream's block. -/
def colOf (y : S256x2048.Idx) : S256x512.Idx
  | 0 => y (0 : Fin 2)
  | 1 => ⟨(y (1 : Fin 2)).val % 512, Nat.mod_lt _ (by decide)⟩

/-- The result block of device `c`. -/
def outAt (X : Dev nD → XT F) (Y : Dev nD → WT F) (z : F .f32) (c : Dev nD) : OT F := fun y => resV X Y z c (strmOf y) (colOf y)

/-- Writing a stream's block changes its columns only. -/
theorem wrO_apply (st : Fin 4) (f : OT F) (v : FVec F S256x512 .f32) (y : S256x2048.Idx) :
    wrO st f v y = if strmOf y = st then v (colOf y) else f y := by
  have h0 : (y (0 : Fin 2)).val < 256 := (y (0 : Fin 2)).isLt
  have h1 : (y (1 : Fin 2)).val < 2048 := (y (1 : Fin 2)).isLt
  have e := congrFun (View.write_whole_slice_unit (Val := Elt F) cc0_stg4_0 ![0, st.val * 512] S256x512.size (inbW st) f v) y
  refine Eq.trans e ?_
  unfold updateSlice
  by_cases h : strmOf y = st
  · have hs : (y (1 : Fin 2)).val / 512 = st.val := congrArg Fin.val h
    rw [if_pos h, dif_pos (fun a => by
      fin_cases a
      · exact ⟨Nat.zero_le _, by show (y (0 : Fin 2)).val < 0 + 256; omega⟩
      · exact ⟨by show st.val * 512 ≤ (y (1 : Fin 2)).val; omega, by show (y (1 : Fin 2)).val < st.val * 512 + 512; omega⟩)]
    refine congrArg v (funext fun a => Fin.ext ?_)
    fin_cases a
    · show (y (0 : Fin 2)).val - 0 = (y (0 : Fin 2)).val; omega
    · show (y (1 : Fin 2)).val - st.val * 512 = (y (1 : Fin 2)).val % 512; omega
  · rw [if_neg h, dif_neg]
    intro hin
    have h2 : st.val * 512 ≤ (y (1 : Fin 2)).val ∧ (y (1 : Fin 2)).val < st.val * 512 + 512 := hin (1 : Fin 2)
    exact h (Fin.ext (by show (y (1 : Fin 2)).val / 512 = st.val; omega))

/-- The four blocks are the whole result. -/
theorem written_eq (X : Dev nD → XT F) (Y : Dev nD → WT F) (z : F .f32) (c : Dev nD) (f : OT F) :
    written X Y c z f = outAt X Y z c := by
  funext y
  unfold written outAt
  rw [wrO_apply, wrO_apply, wrO_apply, wrO_apply]
  generalize strmOf y = st
  fin_cases st <;> rfl

end Cert.KernelIdeal.Ring

end
-- ==== Proof.KI.Data.lean ====
/-
# The run's data and the body obligation

Every device holds its blocks of `x`, `w` and the two scales in its staging buffers; the body takes the protocol's
resources at the start to the closed semaphores, and leaves the staging buffer of the result at `outAt`.
-/
module

public import proofs.«01_k».proof.Proof.KI.Out
public import proofs.«01_k».proof.Proof.Gen.KernelIdeal.Frame

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The block of `x` device `c` holds. -/
def xIn (c : Dev nD) : XT F := (win0_0.blk t0_0).view.read (Elt F) (m ((c : Thread nD τ).loc main_arg0))
/-- The block of `w` device `c` holds. -/
def wIn (c : Dev nD) : WT F := (win0_1.blk t0_0).view.read (Elt F) (m ((c : Thread nD τ).loc main_arg1))
/-- The scale of `x`. -/
def aIn (c : Dev nD) : AT F := (win0_2.blk t0_0).view.read (Elt F) (m ((c : Thread nD τ).loc main_arg2))
/-- The scale of `w`. -/
def bIn (c : Dev nD) : BT F := (win0_3.blk t0_0).view.read (Elt F) (m ((c : Thread nD τ).loc main_arg3))

/-- What device `c` computes. -/
def resAt (c : Dev nD) : OT F := outAt (xIn m) (wIn m) (zOf c (aIn m) (bIn m)) c

/-- What every device sends. -/
abbrev vals : Sent F := sent (xIn m) (wIn m)

/-- The protocol's resources device `c` starts from. -/
def start (c : Dev nD) : sProp 𝕄 :=
  iprop((∃ K, Ctx (vals m) K) ∗ barTodo c ∗ (Pre c 0 ∗ Pre c 1 ∗ Pre c 2 ∗ Pre c 3))

/-- Before the body. -/
def Φ₀ (c : Dev nD) : sProp 𝕄 :=
  iprop((∃ K, Ctx (vals m) K) ∗ (Begin c 0 ∗ Begin c 1 ∗ Begin c 2 ∗ Begin c 3) ∗ barTodo c)
/-- After the body. -/
def Φ₁ (c : Dev nD) : sProp 𝕄 :=
  iprop((Done c 0 ∗ Done c 1 ∗ Done c 2 ∗ Done c 3) ∗ semVal (barCell c) 0)

/-- The run's proof data. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => aIn m c
    | ⟨3, _⟩ => bIn m c
    | ⟨4, _⟩ => resAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- What is held over the windows is what is held for each of the five. -/
theorem wins_eq (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
/-- A staging buffer owned whole. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A staging buffer holding `X` is a staging buffer at contents `X`. -/
theorem stg_intro (c : Dev nD) (b : Ref sig .tc) (X : b.ty.Contents (Elt F)) :
    (((c : Thread nD τ).loc b) ↦{fullShare} X : sProp 𝕄) ⊢ stg c b X := by
  iintro H; iexists X; isplitr
  · ipureintro; rfl
  iexact H

/-- What the body is given. -/
def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

/-- What the body leaves. -/
def bodyPost (c : Dev nD) : sProp 𝕄 :=
  iprop(Φ₁ c ∗ (dats m 0 c).owesAt () t0_0.succ
    ∗ stg c cc0_stg0_0 (xIn m c) ∗ stg c cc0_stg1_0 (wIn m c) ∗ stg c cc0_stg2_0 (aIn m c) ∗ stg c cc0_stg3_0 (bIn m c)
    ∗ stg c cc0_stg4_0 (resAt m c))

/-- At the only step, the staged window of `x` holds the device's input. -/
theorem before_x (c : Dev nD) (d) : (dats m 0 c).before (0 : Fin 5) t0_0 d = xIn m c := by
  unfold Dat.before; rw [if_pos (fetch0_0 t0_0)]; rfl
/-- At the only step, the staged window of `w` holds the device's input. -/
theorem before_w (c : Dev nD) (d) : (dats m 0 c).before (1 : Fin 5) t0_0 d = wIn m c := by
  unfold Dat.before; rw [if_pos (fetch0_1 t0_0)]; rfl
/-- At the only step, the staged window of the scale of `x` holds the device's input. -/
theorem before_a (c : Dev nD) (d) : (dats m 0 c).before (2 : Fin 5) t0_0 d = aIn m c := by
  unfold Dat.before; rw [if_pos (fetch0_2 t0_0)]; rfl
/-- At the only step, the staged window of the scale of `w` holds the device's input. -/
theorem before_b (c : Dev nD) (d) : (dats m 0 c).before (3 : Fin 5) t0_0 d = bIn m c := by
  unfold Dat.before; rw [if_pos (fetch0_3 t0_0)]; rfl

/-- The body on what it is given. -/
theorem bodyPre_wp (c : Dev nD) : bodyPre m c ⊢ WP c body (fun _ => bodyPost m c) := by
  unfold bodyPre Φ₀
  iintro ⟨⟨⟨%K, #Hctx⟩, Hbeg, Hbar⟩, Ho, ⟨%d0, %g0, %h0, Hx⟩, ⟨%d1, %g1, %h1, Hw⟩, ⟨%d2, %g2, %h2, Ha⟩, ⟨%d3, %g3, %h3, Hb⟩, ⟨%d4, %g4, %h4, Hout⟩⟩
  have e0 : g0 = xIn m c := h0.trans (before_x m c d0)
  have e1 : g1 = wIn m c := h1.trans (before_w m c d1)
  have e2 : g2 = aIn m c := h2.trans (before_a m c d2)
  have e3 : g3 = bIn m c := h3.trans (before_b m c d3)
  subst e0; subst e1; subst e2; subst e3
  unfold Dat.owesAt Pipeline.owesWithin
  icases Ho with ⟨%W, %hW, HO⟩
  rw [show (dats m 0 c).owed t0_0.castSucc = O₀ c from rfl]
  iapply (body_wp K (xIn m) (wIn m) c (aIn m) (bIn m) g4 fun _ => bodyPost m c)
  isplitr; · iexact Hctx
  isplitl [Hbeg]; · iexact Hbeg
  isplitl [Hbar]; · iexact Hbar
  isplitl [HO]
  · unfold owe; iexists W; iexact HO
  isplitl [Hx]; · unfold xPts; iexact Hx
  isplitl [Hw]; · unfold wPts; iexact Hw
  isplitl [Ha]; · unfold aPts; iexact Ha
  isplitl [Hb]; · unfold bPts; iexact Hb
  isplitl [Hout]; · unfold oPts; iexact Hout
  rw [written_eq, oweS_done c _ (fun _ => le_refl 15)]
  unfold bodyPost Φ₁ owe xPts wPts aPts bPts oPts
  iintro ⟨Hd, Hz, ⟨%W', HO⟩, Hx, Hw, Ha, Hb, Hout⟩
  isplitl [Hd Hz]
  · isplitl [Hd] <;> iassumption
  isplitl [HO]
  · unfold Dat.owesAt Pipeline.owesWithin
    rw [show (dats m 0 c).owed t0_0.succ = 0 from rfl]
    iexists W'; isplitr
    · ipureintro; exact fun _ _ => Or.inl trivial
    iexact HO
  isplitl [Hx]; · iapply (stg_intro c cc0_stg0_0 (xIn m c)); iexact Hx
  isplitl [Hw]; · iapply (stg_intro c cc0_stg1_0 (wIn m c)); iexact Hw
  isplitl [Ha]; · iapply (stg_intro c cc0_stg2_0 (aIn m c)); iexact Ha
  isplitl [Hb]; · iapply (stg_intro c cc0_stg3_0 (bIn m c)); iexact Hb
  iapply (stg_intro c cc0_stg4_0 (resAt m c)); iexact Hout

/-- The body obligation of every device. -/
theorem body_obligation (c : Dev nD) : BodyObligation (dats (F := F) m 0 c) (defs₀ (F := F)) Variants.none () Set.univ := fun t => by
  rw [show t = t0_0 from fin_N0 t]
  rw [wins_eq, wins_eq]
  have h := bodyPre_wp m c
  rw [← body_eq] at h
  unfold bodyPre bodyPost stg at h
  simp only [← owns_stage] at h
  exact h

end Cert.KernelIdeal.Ring

end
-- ==== Proof.KI.Run.lean ====
/-
# The launch

At the start every device's semaphores are zero, so every cell's invariant is made; the duty tokens are dealt to the
devices that pay them and the launch credit to the devices that wait. From there the library runs every device's
pipeline to its end: `run_main`.
-/
module

public import proofs.«01_k».proof.Proof.KI.Data
public import Idealize.ShloMosaic.Lib.Pipeline.CollectiveSegs

@[expose] public section

set_option maxRecDepth 20000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## Families over the semaphores -/

omit [FloatOps F] in
/-- A family over the protocol's semaphores: the barrier's member and the others. -/
theorem split_option {I : Type} [Fintype I] [DecidableEq I] (Φ : Option I → sProp 𝕄) :
    bigSep Finset.univ Φ = iprop(Φ none ∗ bigSep Finset.univ fun k => Φ (some k)) := by
  rw [show (Finset.univ : Finset (Option I)) = insert none (Finset.univ.map Function.Embedding.some) from by ext k; cases k <;> simp,
    BI.bigSep_insert (by simp), BI.bigSep_map]
  rfl

omit [FloatOps F] in
/-- A family over the transfer semaphores: the send side and the receive side. -/
theorem split_key (Φ : Key → sProp 𝕄) :
    bigSep Finset.univ Φ = iprop((bigSep Finset.univ fun st => bigSep Finset.univ fun s => Φ (false, st, s))
      ∗ bigSep Finset.univ fun st => bigSep Finset.univ fun s => Φ (true, st, s)) := by
  rw [bigSep_univ_prod, bigSep_univ_eq_bigSepL [false, true] (by decide) (by decide), bigSepL_cons_cons, bigSepL_singleton,
    bigSep_univ_prod, bigSep_univ_prod]
  rfl

omit [FloatOps F] in
/-- What is held over the streams is what is held for each of the four. -/
theorem split_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The cells and tokens of the launch -/

/-- Different devices or keys have different cells. -/
theorem kcell_injective : Function.Injective (kcell : Dev nD × Option Key → GSem nD τ sig) := fun a b h =>
  Prod.ext (Fin.ext (congrArg (fun g : GSem nD τ sig => g.1.1.val) h)) (csem_inj (congrArg Prod.snd h))

/-- The kernel's own semaphores. -/
abbrev osem (k : Key) : SemLoc sig := .dma (xsem k)

/-- The kernel's own semaphores are different, scoped and apart from the pipeline's. -/
theorem ownSemFacts : Pipeline.OwnSemFacts cfg0.spec osem :=
  ⟨by decide +kernel, fun a b h => xsem_inj (SemLoc.dma.inj h), by decide +kernel⟩

/-- Every window is held in full. -/
theorem share_eq (c : Dev nD) (w : Fin cfg0.W) : (dats m 0 c).share w = fullShare := by unfold Dat.share; split <;> rfl

/-- Every cell of the protocol. -/
def ringCells : Finset (GSem nD τ sig) := Finset.univ.map ⟨kcell, kcell_injective⟩

/-- A device's tokens: its barrier's `true` (`none`), and the `false` of every semaphore. -/
def tokOf : Dev nD × Option (Option Key) → GSem nD τ sig × ℕ × Bool
  | (c, none) => (barCell c, 0, true)
  | (c, some k) => (kcell (c, k), 0, false)

/-- Different duties have different tokens. -/
theorem tokOf_injective : Function.Injective tokOf
  | (a, none), (b, none), h => by rw [show a = b from Fin.ext (congrArg (fun x : GSem nD τ sig × ℕ × Bool => x.1.1.1.val) h)]
  | (a, none), (b, some k), h => absurd (congrArg (fun x : GSem nD τ sig × ℕ × Bool => x.2.2) h) (by intro e; nomatch e)
  | (a, some k), (b, none), h => absurd (congrArg (fun x : GSem nD τ sig × ℕ × Bool => x.2.2) h) (by intro e; nomatch e)
  | (a, some k), (b, some l), h => by
    have e := kcell_injective (congrArg (fun x : GSem nD τ sig × ℕ × Bool => x.1) h)
    rw [show a = b from congrArg Prod.fst e, show k = l from congrArg Prod.snd e]

/-- Every token of the protocol. -/
def ringToks : Finset (GSem nD τ sig × ℕ × Bool) := Finset.univ.map ⟨tokOf, tokOf_injective⟩

/-- The ghost state of the launch. -/
def u₀ : UU := (initOf (Pipeline.cells cfgs cellOf_inj) (Pipeline.launchToks cfgs cellOf_inj), initOf ringCells ringToks)

/-- The tokens of device `c`'s own cells. -/
def toks (c : Dev nD) : sProp 𝕄 :=
  iprop(dutyTok ER (barCell c) 0 true ∗ dutyTok ER (barCell c) 0 false
    ∗ (bigSep Finset.univ fun st => bigSep Finset.univ fun s => dutyTok ER (sendCell c st s) 0 false)
    ∗ bigSep Finset.univ fun st => bigSep Finset.univ fun s => dutyTok ER (recvCell c st s) 0 false)

/-- What the launch deals device `c`. -/
def G (c : Dev nD) : sProp 𝕄 :=
  iprop((bigSep Finset.univ fun k : Option Key => roundState ER (Rd (vals m)) (kcell (c, k)) 0)
    ∗ (bigSep Finset.univ fun k : Option Key => iprop(atPos ER (kcell (c, k)) 0 ∅ 0 ∗ reached ER (kcell (c, k)) 0)) ∗ toks c)

omit [FloatOps F] in
/-- The tokens of all duties are the tokens of each device. -/
theorem toks_eq : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  rw [split_option, split_option, split_key]
  rfl

omit [FloatOps F] in
/-- What is held over all cells is what is held for each device and key. -/
theorem cells_eq (Φ : GSem nD τ sig → sProp 𝕄) :
    bigSep ringCells Φ = bigSep Finset.univ fun c : Dev nD => bigSep Finset.univ fun k : Option Key => Φ (kcell (c, k)) := by
  unfold ringCells; rw [bigSep_map, bigSep_univ_prod]; rfl

/-- The protocol's ghost state is dealt to the devices. -/
theorem fund_ring : BI.own (ER (initOf ringCells ringToks)) ⊢ (|==> bigSep Finset.univ (G m) : sProp 𝕄) := by
  iintro HX
  imod (Rounds.fund ER (Rd (vals m)) ringCells ringToks) $$ HX with ⟨Hst, Hr, Hat, Htok⟩
  imodintro
  ihave Hst' := (Entails.of_eq (cells_eq fun g => roundState ER (Rd (vals m)) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

omit [FloatOps F] in
/-- The barrier semaphore is the one semaphore outside the kernel's own. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The kernel's own semaphores at zero are the keyed cells at zero. -/
theorem own_eq (c : Dev nD) : (Pipeline.ownSems0 (Ix := Unit) (Name := ℕ) (U := UU) (Lvl := ℕ) (Val := Elt F) (τ := τ) osem c : sProp 𝕄)
    = bigSep Finset.univ fun k : Key => semVal (kcell (c, some k)) 0 := rfl

/-- A device's cells' invariants are made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (vals m)) κ (kcell (c, k))))
          ∗ (bigSep Finset.univ fun k => iprop(atPos ER (kcell (c, k)) 0 ∅ 0 ∗ reached ER (kcell (c, k)) 0)) ∗ toks c) := by
  have ha : iprop((bigSep Finset.univ fun k : Option Key => semVal (kcell (c, k)) 0) ∗ bigSep Finset.univ fun k : Option Key => roundState ER (Rd (vals m)) (kcell (c, k)) 0)
      ⊢ (|={Set.univ}=> bigSep Finset.univ fun k => iprop(∃ κ : ℕ, cellInv ER (Rd (vals m)) κ (kcell (c, k))) : sProp 𝕄) := by
    rw [← bigSep_sep']
    exact (bigSep_mono fun k _ => (Rounds.body_intro ER (Rd (vals m)) (kcell (c, k))).trans inv_alloc).trans (bigSep_fupd _ _)
  unfold G
  rw [own_eq, unscoped_eq]
  iintro ⟨Hos, Hus, Hst, Hat, Htok⟩
  imod ha $$ [Hos Hus Hst] with Hinv
  · isplitl [Hos Hus]
    · rw [split_option]
      isplitl [Hus]
      · iexact Hus
      iexact Hos
    iexact Hst
  imodintro
  isplitl [Hinv]; · iexact Hinv
  isplitl [Hat]; · iexact Hat
  iexact Htok

/-- The tokens of the duties device `c` pays. -/
def payToks (c : Dev nD) : sProp 𝕄 :=
  iprop(dutyTok ER (barCell (prv c)) 0 true ∗ dutyTok ER (barCell (nxt c)) 0 false
    ∗ (bigSep Finset.univ fun st => bigSep Finset.univ fun s => dutyTok ER (sendCell c st s) 0 false)
    ∗ bigSep Finset.univ fun st => bigSep Finset.univ fun s => dutyTok ER (recvCell (dst st c) st s) 0 false)

omit [FloatOps F] in
/-- The receive tokens go to the devices the hops come from. -/
theorem recv_around :
    (bigSep Finset.univ fun c : Dev nD => bigSep Finset.univ fun st : Fin 4 => bigSep Finset.univ fun s : Fin 15 => (dutyTok ER (recvCell c st s) 0 false : sProp 𝕄))
      = bigSep Finset.univ fun c : Dev nD => bigSep Finset.univ fun st : Fin 4 => bigSep Finset.univ fun s : Fin 15 => dutyTok ER (recvCell (dst st c) st s) 0 false := by
  rw [bigSep_univ_comm, bigSep_univ_comm (fun (c : Dev nD) (st : Fin 4) => bigSep Finset.univ fun s : Fin 15 => (dutyTok ER (recvCell (dst st c) st s) 0 false : sProp 𝕄))]
  exact bigSep_congr fun st _ => bigSep_univ_equiv (dst st) (fun c : Dev nD => bigSep Finset.univ fun s : Fin 15 => (dutyTok ER (recvCell c st s) 0 false : sProp 𝕄))

omit [FloatOps F] in
/-- The tokens are dealt round the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)), recv_around]
  exact Entails.refl _

/-- What is device `c`'s alone. -/
def linear (c : Dev nD) : sProp 𝕄 := iprop((bigSep Finset.univ fun k : Option Key => atPos ER (kcell (c, k)) 0 ∅ 0) ∗ payToks c)

/-- What every device knows. -/
def records (K : Dev nD × Option Key → ℕ) : sProp 𝕄 :=
  iprop((bigSep Finset.univ fun ck : Dev nD × Option Key => cellInv ER (Rd (vals m)) (K ck) (kcell ck))
    ∗ bigSep Finset.univ fun ck : Dev nD × Option Key => reached ER (kcell ck) 0)

instance records_persistent (K : Dev nD × Option Key → ℕ) : BI.Persistent (records m K) := by unfold records; infer_instance

/-- What device `c` has once the invariants are made. -/
def G' (c : Dev nD) : sProp 𝕄 := iprop((∃ K, records m K) ∗ linear c)

/-- The records and a device's own part make what that device has once the invariants are made. -/
theorem G'_intro (K : Dev nD × Option Key → ℕ) (c : Dev nD) : iprop(records m K ∗ linear c) ⊢ G' m c := by
  unfold G'
  iintro ⟨HR, HL⟩
  isplitl [HR]
  · iexists K; iexact HR
  iexact HL

/-- The invariants and tokens, made cell by cell, regroup into one part for each device. -/
theorem regroup :
    (bigSep Finset.univ fun c : Dev nD => iprop((bigSep Finset.univ fun k => iprop(∃ κ : ℕ, cellInv ER (Rd (vals m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option Key => iprop(∃ κ : ℕ, cellInv ER (Rd (vals m)) κ (kcell ck))),
    bigSep_congr (s := Finset.univ) (fun (c : Dev nD) _ => bigSep_sep' Finset.univ (fun k : Option Key => (atPos ER (kcell (c, k)) 0 ∅ 0 : sProp 𝕄)) (fun k => reached ER (kcell (c, k)) 0)),
    bigSep_sep', ← bigSep_univ_prod (fun ck : Dev nD × Option Key => (reached ER (kcell ck) 0 : sProp 𝕄))]
  iintro ⟨HI, ⟨Hat, #HR⟩, Htok⟩
  ihave HK := (BI.bigSep_exists_pi Finset.univ (fun (ck : Dev nD × Option Key) (κ : ℕ) => (cellInv ER (Rd (vals m)) κ (kcell ck) : sProp 𝕄))) $$ HI
  icases HK with ⟨%K, #HI⟩
  ihave Htk := (toks_around (F := F)) $$ Htok
  iapply (bigSep_with_persistent (R := records m K) fun c _ => G'_intro m K c)
  isplitr
  · unfold records; isplitl; · iexact HI
    iexact HR
  · unfold linear
    rw [bigSep_sep']
    isplitl [Hat]; · iexact Hat
    iexact Htk

/-- The launch's one step for all devices together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A receive cell determines its device, stream and hop. -/
theorem recvCell_inj {a b : Dev nD} {st st' : Fin 4} {s s' : Fin 15} (h : recvCell a st s = recvCell b st' s') : a = b ∧ st = st' ∧ s = s' := by
  have e : ((a, some (true, st, s)) : Dev nD × Option Key) = (b, some (true, st', s')) := kcell_injective h
  refine ⟨congrArg Prod.fst e, ?_, ?_⟩
  · exact congrArg (fun k : Key => k.2.1) (Option.some.inj (congrArg Prod.snd e))
  · exact congrArg (fun k : Key => k.2.2) (Option.some.inj (congrArg Prod.snd e))

/-- A barrier cell determines its device. -/
theorem barCell_inj {a b : Dev nD} (h : barCell a = barCell b) : a = b := Fin.ext (congrArg (fun g : GSem nD τ sig => g.1.1.val) h)

/-- No receive cell is a barrier cell. -/
theorem recv_ne_bar {a b : Dev nD} {st : Fin 4} {s : Fin 15} (h : recvCell a st s = barCell b) : False :=
  nomatch (congrArg Prod.snd h : (SemLoc.dma (recvSem st s) : SemLoc sig) = .reg barS)

/-- Sending owes nothing to a barrier. -/
theorem oweS_bar (d c : Dev nD) (k : Fin 4 → ℕ) : oweS d k (barCell c) () = 0 := by
  by_contra h
  obtain ⟨st, s, -, e⟩ := oweS_pos (Nat.pos_of_ne_zero h)
  exact recv_ne_bar e.symm

/-- At the start, a receive cell is owed one transfer, by the device that sends to it. -/
theorem oweS_recv (d c : Dev nD) (st : Fin 4) (s : Fin 15) : oweS d (fun _ => 0) (recvCell c st s) () = if d = src st c then N else 0 := by
  unfold oweS
  rw [Finset.sum_apply, Finsupp.finset_sum_apply, Finset.sum_eq_single ((st, s) : Fin 4 × Fin 15)]
  · rw [if_pos (Nat.zero_le _), tallyAt_apply]
    by_cases h : d = src st c
    · subst h; rw [if_pos rfl, if_pos ⟨by rw [Equiv.apply_symm_apply], rfl⟩]
    · rw [if_neg h, if_neg]
      rintro ⟨e, -⟩
      exact h (by rw [(recvCell_inj e).1, Equiv.symm_apply_apply])
  · intro p _ hp
    rw [if_pos (Nat.zero_le _), tallyAt_apply, if_neg]
    rintro ⟨e, -⟩
    have := recvCell_inj e
    exact hp (Prod.ext this.2.1.symm this.2.2.symm)
  · intro h; exact absurd (Finset.mem_univ _) h

/-- What device `d` owes a landing on device `c`: the amount of one hop, if `c` is where the stream goes from `d`. -/
theorem owed_recv (d c : Dev nD) (st : Fin 4) (s : Fin 15) : O₀ d (recvCell c st s) () = if d = src st c then N else 0 := by
  unfold O₀
  rw [Pi.add_apply, Finsupp.add_apply, Pi.add_apply, Finsupp.add_apply, oweS_recv,
    tallyAt_ne_cell (fun h => recv_ne_bar h), tallyAt_ne_cell (fun h => recv_ne_bar h), Finsupp.zero_apply, Nat.add_zero, Nat.add_zero]

/-- What device `d` owes device `c`'s barrier: a unit from each neighbour. -/
theorem owed_bar (d c : Dev nD) : O₀ d (barCell c) () = (if d = prv c then 1 else 0) + (if d = nxt c then 1 else 0) := by
  unfold O₀
  rw [Pi.add_apply, Finsupp.add_apply, Pi.add_apply, Finsupp.add_apply, oweS_bar, tallyAt_apply, tallyAt_apply, Nat.zero_add]
  congr 1
  · by_cases h : d = prv c
    · subst h; rw [nxt_prv, if_pos ⟨rfl, rfl⟩, if_pos rfl]
    · rw [if_neg (fun ⟨e, _⟩ => h (by rw [barCell_inj e, prv_nxt])), if_neg h]
  · by_cases h : d = nxt c
    · subst h; rw [prv_nxt, if_pos ⟨rfl, rfl⟩, if_pos rfl]
    · rw [if_neg (fun ⟨e, _⟩ => h (by rw [barCell_inj e, nxt_prv])), if_neg h]

/-- At the launch, a barrier is promised two signals. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- At the launch, a receive cell is promised one transfer. -/
theorem launch_recv (c : Dev nD) (st : Fin 4) (s : Fin 15) :
    tallyOn (recvCell c st s) (launchCredit (Pipeline.owing O₀) 0 (recvCell c st s)) = (tallyAt (recvCell c st s) () N : CellTallies nD τ sig Unit) := by
  unfold tallyAt; refine congrArg _ (Finsupp.ext fun u => ?_); cases u
  rw [Pipeline.launchCredit_owing, Finsupp.single_eq_same, Finset.sum_congr rfl fun d _ => owed_recv d c st s, Finset.sum_ite_eq' Finset.univ (src st c) fun _ => N,
    if_pos (Finset.mem_univ _)]

omit [FloatOps F] in
/-- A family over all semaphores holds the protocol's members. -/
theorem only_keys (Φ : SemLoc sig → sProp 𝕄) : bigSep Finset.univ Φ ⊢ bigSep Finset.univ fun k : Option Key => Φ (csem k) := by
  rw [show (bigSep Finset.univ fun k : Option Key => Φ (csem k)) = bigSep (Finset.univ.map ⟨csem, csem_inj⟩) Φ from
    (BI.bigSep_map (Φ := Φ) (s := Finset.univ) ⟨csem, csem_inj⟩).symm]
  exact BI.bigSep_subset (Finset.subset_univ _)

omit [FloatOps F] in
/-- A device's launch credit: its barrier's two units and every landing's amount. -/
theorem creds (c : Dev nD) :
    (Pipeline.launchCred O₀ c : sProp 𝕄) ⊢ iprop(cred (tallyAt (barCell c) () 2)
      ∗ bigSep Finset.univ fun st => bigSep Finset.univ fun s => cred (tallyAt (recvCell c st s) () N)) := by
  unfold Pipeline.launchCred
  refine (only_keys _).trans ?_
  rw [split_option, split_key]
  iintro ⟨Hb, -, Hr⟩
  isplitl [Hb]
  · iapply (Entails.of_eq (congrArg cred (launch_bar c))); iexact Hb
  iapply (Entails.of_eq (bigSep_congr fun st _ => bigSep_congr fun s _ => congrArg cred (launch_recv c st s)))
  iexact Hr

/-! ## The side conditions -/

omit [FloatOps F] in
/-- The four streams' hops before the handshake. -/
theorem pre_intro (c : Dev nD) :
    iprop((bigSep Finset.univ fun st => bigSep Finset.univ fun s => cred (tallyAt (recvCell c st s) () N))
        ∗ (bigSep Finset.univ fun st => bigSep Finset.univ fun s => atPos ER (recvCell c st s) 0 ∅ 0)
        ∗ (bigSep Finset.univ fun st => bigSep Finset.univ fun s => atPos ER (sendCell c st s) 0 ∅ 0)
        ∗ (bigSep Finset.univ fun st => bigSep Finset.univ fun s => dutyTok ER (sendCell c st s) 0 false)
        ∗ bigSep Finset.univ fun st => bigSep Finset.univ fun s => dutyTok ER (recvCell (dst st c) st s) 0 false)
      ⊢ (bigSep Finset.univ fun st => Pre c st : sProp 𝕄) := by
  unfold Pre recvTodo preSend
  simp only [bigSep_sep']
  iintro ⟨H1, H2, H3, H4, H5⟩
  isplitl [H1 H2]
  · isplitl [H1] <;> iassumption
  isplitl [H3]; · iexact H3
  isplitl [H4] <;> iassumption

/-- The records and the levels make the context. -/
theorem ctx_intro (K : Dev nD × Option Key → ℕ) : iprop(records m K ∗ levAts L lv) ⊢ Ctx (vals m) K := by
  unfold records Ctx
  iintro ⟨⟨H1, H2⟩, H3⟩
  isplitl [H1]; · iexact H1
  isplitl [H2] <;> iassumption

/-- What a device has at the launch gives the resources it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' linear payToks
  rw [split_option, split_key]
  iintro ⟨-, Hlev, Hcr, -, ⟨%K, HR⟩, ⟨HaB, HaS, HaR⟩, HtP, HtN, HtS, HtR⟩
  ihave Hc := (creds (F := F) c) $$ Hcr
  icases Hc with ⟨H1, HN⟩
  imodintro
  isplitl
  · unfold start
    isplitl [Hlev HR]
    · iexists K
      iapply (ctx_intro m K)
      isplitl [HR] <;> iassumption
    isplitl [HaB H1 HtP HtN]
    · unfold barTodo
      isplitl [HaB]; · iexact HaB
      isplitl [H1]; · iexact H1
      isplitl [HtP] <;> iassumption
    rw [← split_four (fun st => (Pre c st : sProp 𝕄))]
    iapply (pre_intro (F := F) c)
    isplitl [HN]; · iexact HN
    isplitl [HaR]; · iexact HaR
    isplitl [HaS]; · iexact HaS
    isplitl [HtS] <;> iassumption
  · iempintro

omit [FloatOps F] in
/-- A stream begins. -/
theorem begin_intro (c : Dev nD) (st : Fin 4) : iprop(Pre c st ∗ sWhole c st ∗ cWhole c st) ⊢ (Begin c st : sProp 𝕄) := by
  unfold Begin
  iintro ⟨HP, HS, HC⟩
  isplitl [HP]; · iexact HP
  isplitl [HC]; · iapply (cWhole_split (F := F) c st); iexact HC
  iapply (sWhole_split (F := F) c st); iexact HS

/-- The starting resources and the scratch buffers give the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  refine (sep_mono_right (sep_mono_right (Entails.of_eq (scratch_eq (F := F) c)))).trans ?_
  unfold Φ₀ start
  iintro ⟨⟨HK, Hbar, P0, P1, P2, P3⟩, -, S0, S1, S2, S3, C0, C1, C2, C3⟩
  isplitl [HK]; · iexact HK
  isplitr [Hbar]
  · isplitl [P0 S0 C0]
    · iapply (begin_intro (F := F) c 0); isplitl [P0]; · iexact P0
      isplitl [S0] <;> iassumption
    isplitl [P1 S1 C1]
    · iapply (begin_intro (F := F) c 1); isplitl [P1]; · iexact P1
      isplitl [S1] <;> iassumption
    isplitl [P2 S2 C2]
    · iapply (begin_intro (F := F) c 2); isplitl [P2]; · iexact P2
      isplitl [S2] <;> iassumption
    · iapply (begin_intro (F := F) c 3); isplitl [P3]; · iexact P3
      isplitl [S3] <;> iassumption
  iexact Hbar

omit [FloatOps F] in
/-- With every hop received, the receive cells are at zero and the landing slots are free. -/
theorem RecvF_all (c : Dev nD) (st : Fin 4) :
    (RecvF c st 15 : sProp 𝕄) = iprop((bigSep Finset.univ fun s => semVal (recvCell c st s) 0) ∗ Lands c st) := by
  unfold RecvF Lands
  rw [← bigSep_sep']
  exact bigSep_congr fun s _ => if_pos s.isLt
omit [FloatOps F] in
/-- With every hop gone, the send cells are at zero. -/
theorem SendF_all (c : Dev nD) (st : Fin 4) : (SendF c st 15 15 : sProp 𝕄) = bigSep Finset.univ fun s => semVal (sendCell c st s) 0 := by
  unfold SendF
  exact bigSep_congr fun s _ => if_pos s.isLt

/-- A finished stream: its semaphores at zero, its buffers whole. -/
theorem done_elim (c : Dev nD) (st : Fin 4) :
    (Done c st : sProp 𝕄) ⊢ iprop(((bigSep Finset.univ fun s => semVal (sendCell c st s) 0) ∗ bigSep Finset.univ fun s => semVal (recvCell c st s) 0)
      ∗ sWhole c st ∗ cWhole c st) := by
  unfold Done
  rw [RecvF_all, SendF_all]
  iintro ⟨⟨HR, HL⟩, HS, HF⟩
  isplitl [HS HR]
  · isplitl [HS] <;> iassumption
  isplitl [HF]
  · iapply (sWhole_join (F := F) c st); iexact HF
  iapply (cWhole_join (F := F) c st); iexact HL

/-- The state after the body gives back the semaphores at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  refine BIBase.Entails.trans ?_ (sep_mono_right (sep_mono_right (Entails.of_eq (scratch_eq (F := F) c).symm)))
  rw [own_eq, unscoped_eq, split_key, split_four, split_four]
  unfold Φ₁
  iintro ⟨⟨D0, D1, D2, D3⟩, HzB⟩
  ihave D0 := (done_elim (F := F) c 0) $$ D0
  ihave D1 := (done_elim (F := F) c 1) $$ D1
  ihave D2 := (done_elim (F := F) c 2) $$ D2
  ihave D3 := (done_elim (F := F) c 3) $$ D3
  icases D0 with ⟨⟨A0, B0⟩, S0, C0⟩
  icases D1 with ⟨⟨A1, B1⟩, S1, C1⟩
  icases D2 with ⟨⟨A2, B2⟩, S2, C2⟩
  icases D3 with ⟨⟨A3, B3⟩, S3, C3⟩
  isplitl [HzB]; · iexact HzB
  isplitl [A0 A1 A2 A3 B0 B1 B2 B3]
  · isplitl [A0 A1 A2 A3]
    · isplitl [A0]; · iexact A0
      isplitl [A1]; · iexact A1
      isplitl [A2]; · iexact A2
      iexact A3
    · isplitl [B0]; · iexact B0
      isplitl [B1]; · iexact B1
      isplitl [B2]; · iexact B2
      iexact B3
  isplitl [S0]; · iexact S0
  isplitl [S1]; · iexact S1
  isplitl [S2]; · iexact S2
  isplitl [S3]; · iexact S3
  isplitl [C0]; · iexact C0
  isplitl [C1]; · iexact C1
  isplitl [C2] <;> iassumption

/-- The pipeline's semaphores are at level 0. -/
theorem stage_level : ∀ (w : Fin cfg0.W) (s : Fin (cfg0.win w).nbuf), lvOf (.dma ((cfg0.win w).sem s)) ≤ 0 := by decide +kernel

/-- The pipeline may wait on its semaphores whatever the device owes. -/
theorem waits (c : Dev nD) : (levAts L lv : sProp 𝕄) ⊢ Pipeline.cellsWaits cfgs (dats m) () 0 c :=
  Pipeline.cellsWaits_intro cfgs (dats m) () 0 c fun w s t =>
    mayWait c _ 0 (stage_level w s) _ (by
      rcases t with ⟨_ | _, ht⟩
      · exact O₀_above c
      · intro g u h; exact absurd h (Nat.lt_irrefl 0))

/-! ## The run -/

/-- The final contents of an array. -/
def finalA (c : Dev nD) (w : Fin cfg0.W) : Buf (Elt F) ((cfg0.win w).arr.view.loc (c : Thread nD τ)) := (dats m 0 c).arrAt w cfg0.N

/-- Every device's arrays end at `finalA`. -/
def QC : PUnit × MemSt nD τ sig (Elt F) → Prop := fun r =>
  ∀ c : Dev nD, ∀ w : Fin cfg0.W, r.2.mem ((cfg0.win w).arr.view.loc (c : Thread nD τ)) = finalA m c w

/-- From any memory with zero semaphores every fair run of the sixteen devices ends, with the arrays at `finalA` and
    every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.KI.Final.lean ====
/-
# What a run leaves in memory

The argument arrays as launched, the result array of device `c` at what the device computes.
-/
module

public import proofs.«01_k».proof.Proof.KI.Run
public import Idealize.ShloMosaic.Lib.Pipeline.ValueKit

@[expose] public section

set_option maxRecDepth 20000

noncomputable section

namespace Cert.KernelIdeal.Ring

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The one write-back leaves the result array at what the device computes. -/
theorem final_out (c : Dev nD) : finalA m c (4 : Fin 5) = resAt m c := by
  unfold finalA
  refine (dats m 0 c).arrAt_eq_of_after_last (4 : Fin 5) t0_0 (by decide +kernel) (resAt m c) fun j => ?_
  rfl

/-- The four arguments are as launched. -/
theorem args_kept (c : Dev nD) (r : PUnit × MemSt nD τ sig (Elt F)) (h : QC m r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c (0 : Fin 5)).trans ((dats m 0 c).arrAt_in (0 : Fin 5) rfl _), (h c (1 : Fin 5)).trans ((dats m 0 c).arrAt_in (1 : Fin 5) rfl _),
    (h c (2 : Fin 5)).trans ((dats m 0 c).arrAt_in (2 : Fin 5) rfl _), (h c (3 : Fin 5)).trans ((dats m 0 c).arrAt_in (3 : Fin 5) rfl _)⟩

/-- Every fair run ends, keeps the arguments and leaves every semaphore at zero. -/
theorem quiescent : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => args_kept m c r h.1, h.2⟩) (run_main m ρ)

/-- Every fair run ends with every device's result at `resAt` and its arguments as launched. -/
theorem run_value : θ_run defs (onTc (τ := τ) (main (F := F))) ⟨m, fun _ => 0, ρ⟩ (fun r => ∀ c : Dev nD,
    r.2.mem ((c : Thread nD τ).loc main_v1) = resAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h.1 c (4 : Fin 5)).trans (final_out m c), args_kept m c r h.1⟩) (run_main m ρ)

end Cert.KernelIdeal.Ring

end
-- ==== Proof.KI.Val.lean ====
/-
# The kernel's value

What a stream carries is a sum of products over the devices it has passed; after the whole ring it is the sum over all
sixteen devices, for the rows the last device holds.
-/
module

public import proofs.«01_k».proof.Proof.KI.Final
public import Idealize.ShloMosaic.Lib.Pointwise

@[expose] public section

set_option maxRecDepth 20000

noncomputable section

namespace Cert.KernelIdeal.Ring

open Cert.KernelIdeal Cert.KernelIdeal.Gen
open Idealize.ShloMosaic Idealize.ShloMosaic.TcCoe

/-! ## The operations at an index -/

/-- Packing a block keeps its elements. -/
theorem packV_apply (p : FVec Ideal S256x512 .f32) (i : S1x256x512.Idx) : packV p i = p (fun a => i a.succ) := by
  unfold packV
  rw [show (truncf .bf16 p bitsLt_bf16_f32 : FVec Ideal S256x512 .bf16) = p from rfl]
  exact shapeCast_addUnit_apply ![256, 512] p shapeCasts_S256x512_S1x256x512 i

/-- Adding a product to what landed adds element by element. -/
theorem accV_apply (v : Vec Ideal S1x256x512 .bf16) (p : FVec Ideal S256x512 .f32) (j : S256x512.Idx) :
    accV v p j = (v (Fin.cons ⟨0, Nat.one_pos⟩ j) + p j : EReal) := by
  unfold accV
  show ((shapeCast S256x512 v shapeCasts_S1x256x512_S256x512 j : EReal) + p j) = _
  rw [← shapeCast_dropUnit_apply ![256, 512] v shapeCasts_S1x256x512_S256x512 j]

/-- A packed value, unpacked and added to. -/
theorem acc_pack (p q : FVec Ideal S256x512 .f32) (j : S256x512.Idx) : accV (packV p) q j = (p j + q j : EReal) := by
  rw [accV_apply, packV_apply]
  rfl

/-- A short product at an element is the sum over its 256 terms. -/
theorem dotP_apply (x : Vec Ideal S256x256 .fp8e4m3) (w : Vec Ideal S256x512 .fp8e5m2) (i : Fin 256) (l : Fin 512) :
    dotP x w (ix2 i l) = ∑ k : Fin 256, (x (ix2 i k) * w (ix2 k l) : EReal) := by
  unfold dotP
  pointwise

/-! ## Rows and columns -/

/-- Row `i` of the rows device `g` gets. -/
def rowOf (g : Dev nD) (i : Fin 256) : Fin 4096 := ⟨g.val * 256 + i.val, by have : g.val < 16 := g.isLt; omega⟩
/-- Column `j` of stream `st`. -/
def lane (st : Fin 4) (j : Fin 512) : Fin 2048 := ⟨st.val * 512 + j.val, by omega⟩

/-- An entry of a block of `x`. -/
def xAt (f : XT Ideal) (i : Fin 4096) (k : Fin 256) : EReal := f (ix2 i k)
/-- An entry of a block of `w`. -/
def wAt (f : WT Ideal) (k : Fin 256) (l : Fin 2048) : EReal := f (ix2 k l)

/-- Where the rows of `x` read at turn `r` begin. -/
theorem off_eq : ∀ (c : Dev nD) (r : Fin 17), k0_off1 c (BitVec.ofNat 32 r.val) = ![(c.val + 32 + r.val) % 16 * 256, 0] := by
  decide +kernel

/-- An element of the rows of `x` read for device `g`. -/
theorem xrow_apply (c g : Dev nD) (r : Fin 17) (h : g.val = (c.val + 32 + r.val) % 16) (f : XT Ideal) (i k : Fin 256) :
    xrow c r f (ix2 i k) = xAt f (rowOf g i) k := by
  unfold xrow xAt
  refine congrArg f (funext fun a => Fin.ext ?_)
  have e0 : k0_off1 c (BitVec.ofNat 32 r.val) 0 = (c.val + 32 + r.val) % 16 * 256 := congrFun (off_eq c r) 0
  have e1 : k0_off1 c (BitVec.ofNat 32 r.val) 1 = 0 := congrFun (off_eq c r) 1
  fin_cases a
  · show k0_off1 c (BitVec.ofNat 32 r.val) 0 + 1 * i.val = g.val * 256 + i.val
    rw [e0, h]; omega
  · show k0_off1 c (BitVec.ofNat 32 r.val) 1 + 1 * k.val = k.val
    rw [e1]; omega

/-- An element of the columns of `w` read for a stream. -/
theorem wcol_apply (st : Fin 4) (f : WT Ideal) (k : Fin 256) (j : Fin 512) :
    wcol st f (ix2 k j) = wAt f k (lane st j) := by
  unfold wcol wAt
  refine congrArg f (funext fun a => Fin.ext ?_)
  fin_cases a
  · show 0 + 1 * k.val = k.val
    omega
  · show st.val * 512 + 1 * j.val = st.val * 512 + j.val
    omega

/-! ## Walking the ring -/

/-- How far a stream's step back goes round the ring. -/
def back (st : Fin 4) : ℕ := pick 15 1 st

/-- The device `i` steps back. -/
theorem iter_val (st : Fin 4) (c : Dev nD) (i : ℕ) : ((src st)^[i] c).val = (c.val + i * back st) % 16 := by
  have hs : ∀ d : Dev nD, (src st d).val = (d.val + back st) % 16 := by
    revert st; decide
  induction i with
  | zero => have : c.val < 16 := c.isLt; simp; omega
  | succ i ih => rw [Function.iterate_succ_apply', hs, ih, Nat.succ_mul]; omega

/-- Sixteen steps round the ring come back to the device. -/
theorem iter_all (st : Fin 4) (c : Dev nD) : (src st)^[16] c = c := by
  have : c.val < 16 := c.isLt
  refine Fin.ext ?_
  rw [iter_val]; omega

/-- The first sixteen devices met round the ring are all the devices, each once. -/
theorem iter_bij (st : Fin 4) (c : Dev nD) : Function.Bijective fun i : Fin 16 => (src st)^[i.val] c := by
  rw [Fintype.bijective_iff_injective_and_card]
  refine ⟨fun i j h => Fin.ext ?_, rfl⟩
  have e := congrArg Fin.val h
  have hi := i.isLt
  have hj := j.isLt
  simp only [iter_val] at e
  fin_cases st <;> simp only [back, pick] at e <;> omega

/-! ## What a stream carries -/

variable (X : Dev nD → XT Ideal) (Y : Dev nD → WT Ideal)

/-- The product device `d` adds for row `i` of device `g` and column `l`. -/
def part (d g : Dev nD) (i : Fin 256) (l : Fin 2048) : EReal := ∑ k : Fin 256, xAt (X d) (rowOf g i) k * wAt (Y d) k l

/-- `s + 2` steps back are `14 - s` steps forward. -/
theorem turn_eq (a s : ℕ) (hs : s ≤ 14) : (a + (s + 2) * 15) % 16 = (a + 32 + (14 - s) % 17) % 16 := by
  have hr : (14 - s) % 17 + s = 14 := by omega
  generalize (14 - s) % 17 = r at hr
  rw [← Nat.add_mul_mod_self_left (a + (s + 2) * 15) 16 1, ← Nat.add_mul_mod_self_left (a + 32 + r) 16 s]
  congr 1; omega

/-- The product added at hop `s` is this device's part of the block of the device `s + 2` steps up the stream. -/
theorem prd_apply (c : Dev nD) (s : ℕ) (hs : s ≤ 14) (st : Fin 4) (i : Fin 256) (l : Fin 512) :
    prd X Y c s st (ix2 i l) = part X Y c ((src st)^[s + 2] c) i (lane st l) := by
  unfold prd part
  rw [dotP_apply]
  refine Finset.sum_congr rfl fun k _ => ?_
  rw [wcol_apply]
  refine congrArg (· * _) ?_
  have hv := iter_val st c (s + 2)
  fin_cases st <;> simp only [back, pick] at hv <;>
    exact xrow_apply c _ _ (by simp only [rowR, rowL]; rw [hv]; first | exact turn_eq _ s hs | omega) _ _ _

/-- The first product sent is this device's part of the block of the device one step up the stream. -/
theorem prd0_apply (c : Dev nD) (st : Fin 4) (i : Fin 256) (l : Fin 512) :
    prd0 X Y c st (ix2 i l) = part X Y c ((src st)^[1] c) i (lane st l) := by
  unfold prd0 part
  rw [dotP_apply]
  refine Finset.sum_congr rfl fun k _ => ?_
  rw [wcol_apply]
  refine congrArg (· * _) ?_
  have hv := iter_val st c 1
  fin_cases st <;> simp only [back, pick] at hv <;>
    exact xrow_apply c _ _ (by simp only [show (15 : Fin 17).val = 15 from rfl, show (1 : Fin 17).val = 1 from rfl]; omega) _ _ _

/-- Hop `s` of a stream carries the products of the `s + 1` devices it has passed. -/
theorem sent_apply (st : Fin 4) : ∀ (s : ℕ) (hs : s ≤ 14) (c : Dev nD), ∃ p : FVec Ideal S256x512 .f32, sentV X Y c st s = packV p ∧
    ∀ (i : Fin 256) (l : Fin 512), p (ix2 i l) = ∑ n ∈ Finset.range (s + 1), part X Y ((src st)^[n] c) ((src st)^[s + 1] c) i (lane st l)
  | 0, _, c => ⟨_, rfl, fun i l => by rw [prd0_apply, Finset.sum_range_one]; rfl⟩
  | s + 1, hs, c => by
    obtain ⟨p, hp, hv⟩ := sent_apply st s (by omega) (src st c)
    refine ⟨_, rfl, fun i l => ?_⟩
    rw [hp, acc_pack, hv, prd_apply X Y c s (by omega), Finset.sum_range_succ' _ (s + 1)]
    rfl

/-- The result of a stream: the sum over all devices, scaled and cut off below at zero. -/
theorem res_apply (z : EReal) (c : Dev nD) (st : Fin 4) (i : Fin 256) (l : Fin 512) :
    resV X Y z c st (ix2 i l) = max ((∑ d : Dev nD, part X Y d c i (lane st l)) * z) 0 := by
  obtain ⟨p, hp, hv⟩ := sent_apply X Y st 14 le_rfl (src st c)
  have hsum : accV (sentV X Y (src st c) st 14) (prd X Y c 14 st) (ix2 i l) = ∑ d : Dev nD, part X Y d c i (lane st l) := by
    rw [hp, acc_pack, hv, prd_apply X Y c 14 le_rfl]
    have h16 := iter_all st c
    rw [← (iter_bij st c).sum_comp (fun d => part X Y d c i (lane st l)),
      ← Finset.sum_range (fun n => part X Y ((src st)^[n] c) c i (lane st l)), Finset.sum_range_succ' _ 15]
    have e : (src st)^[14 + 1] (src st c) = c := h16
    rw [e, h16]
    rfl
  unfold resV finV
  rw [← hsum]
  pointwise

end Cert.KernelIdeal.Ring

end
-- ==== Proof.Ref.lean ====
/-
# The reference's value

The reference is one product of the whole arrays, scaled and cut off below at zero; this reads it at an index.
-/
module

public import proofs.«01_k».proof.Proof.Gen.ReferenceIdeal.Value
public import Idealize.ShloMosaic.Lib.Pipeline.ValueKit
public import Idealize.ShloMosaic.Lib.Pipeline.ReadBack
public import Idealize.ShloMosaic.Lib.Pointwise
public import Idealize.ShloMosaic.Lib.ValueIdx

@[expose] public section

noncomputable section

namespace Cert.ReferenceIdeal.Whole

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- A sum scaled by the product of the two scales, then cut off below at zero. -/
def cutOff (a b s : EReal) : EReal := max (s * (a * b)) 0

/-- The whole product at a row and a column, scaled and cut off. -/
def whole (x : Vec Ideal S4096x4096 .fp8e4m3) (w : Vec Ideal S4096x2048 .fp8e5m2) (a b : Vec Ideal S1 .f32) :
    Vec Ideal S4096x2048 .f32 := fun y =>
  cutOff (a (ix1 0)) (b (ix1 0)) (∑ k : Fin 4096, x (ix2 (y 0) k) * w (ix2 k (y 1)))

/-- Every window holds its whole array. -/
theorem idx : ∀ t : Fin cfg0.N, win0_0.index t = ![0, 0] ∧ win0_1.index t = ![0, 0] ∧ win0_2.index t = ![0] ∧ win0_3.index t = ![0] :=
  (by decide +kernel : ∀ t : Fin grid0.N, _)

/-- The reference's block of its first argument is the whole argument. -/
theorem iblk0 (c : Dev nD) : iblk m c 0 t0_0 = m ((c : Thread nD τ).loc main_arg0) := by
  blk_ext! [iblk, V, idx t0_0]
/-- The reference's block of its second argument is the whole argument. -/
theorem iblk1 (c : Dev nD) : iblk m c 1 t0_0 = m ((c : Thread nD τ).loc main_arg1) := by
  blk_ext! [iblk, V, idx t0_0]
/-- The reference's block of its third argument is the whole argument. -/
theorem iblk2 (c : Dev nD) : iblk m c 2 t0_0 = m ((c : Thread nD τ).loc main_arg2) := by
  blk_ext! [iblk, V, idx t0_0]
/-- The reference's block of its fourth argument is the whole argument. -/
theorem iblk3 (c : Dev nD) : iblk m c 3 t0_0 = m ((c : Thread nD τ).loc main_arg3) := by
  blk_ext! [iblk, V, idx t0_0]

/-- A one-element array has one index. -/
theorem one_idx (i : S1.Idx) : i = ix1 0 := by
  funext a
  exact Fin.ext (by have := (i a).isLt; fin_cases a; simp at this ⊢)

/-- What the body stores, at an index. -/
theorem pay_apply (x : Vec Ideal S4096x4096 .fp8e4m3) (w : Vec Ideal S4096x2048 .fp8e5m2) (a b : Ideal .f32) (y : S4096x2048.Idx) :
    k0_pay1 (F := Ideal) x w a b y = cutOff a b (∑ k : Fin 4096, x (ix2 (y 0) k) * w (ix2 k (y 1))) := by
  unfold k0_pay1
  pointwise
  rfl

/-- The reference's result array. -/
theorem final (c : Dev nD) : (dats m 0 c).arrAt 4 cfg0.N = whole (m ((c : Thread nD τ).loc main_arg0)) (m ((c : Thread nD τ).loc main_arg1))
    (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  frame_out
  rw [iblk0, iblk1, iblk2, iblk3]
  rw [read_unread_whole, read_unread_whole, read_unread_whole, read_unread_whole]
  rw [pay_apply, one_idx (Shape.Idx.first _)]
  rfl

end Cert.ReferenceIdeal.Whole

end
-- ==== Proof.Alg.lean ====
/-
# The kernel computes the reference

Device `c` ends with block `c` of the rows of the reference's result.
-/
module

public import proofs.«01_k».proof.Defs
public import proofs.«01_k».proof.Proof.KI.Val
public import proofs.«01_k».proof.Proof.Ref
public import Idealize.ShloMosaic.Lib.Pipeline.ValueKit

@[expose] public section

set_option maxRecDepth 20000

noncomputable section

namespace Cert.KernelIdeal.Ring

open Cert.KernelIdeal Cert.KernelIdeal.Gen
open Idealize.ShloMosaic Idealize.ShloMosaic.TcCoe

variable (m : (ℓ : Loc nD τ sig) → Buf (Elt Ideal) ℓ)

/-- Every window holds its whole array. -/
theorem idx : ∀ t : Fin cfg0.N, win0_0.index t = ![0, 0] ∧ win0_1.index t = ![0, 0] ∧ win0_2.index t = ![0] ∧ win0_3.index t = ![0] :=
  (by decide +kernel : ∀ t : Fin grid0.N, _)

/-- The staged `x` of a device is its whole argument. -/
theorem xIn_eq (c : Dev nD) : xIn m c = m ((c : Thread nD τ).loc main_arg0) := by
  unfold xIn; blk_ext! [idx t0_0]
/-- The staged `w` of a device is its whole argument. -/
theorem wIn_eq (c : Dev nD) : wIn m c = m ((c : Thread nD τ).loc main_arg1) := by
  unfold wIn; blk_ext! [idx t0_0]
/-- The staged scale of `x` is the whole argument. -/
theorem aIn_eq (c : Dev nD) : aIn m c = m ((c : Thread nD τ).loc main_arg2) := by
  unfold aIn; blk_ext! [idx t0_0]
/-- The staged scale of `w` is the whole argument. -/
theorem bIn_eq (c : Dev nD) : bIn m c = m ((c : Thread nD τ).loc main_arg3) := by
  unfold bIn; blk_ext! [idx t0_0]

/-- A one-element array has one index. -/
theorem one_idx (i : S1.Idx) : i = ix1 0 := by
  funext a
  exact Fin.ext (by have := (i a).isLt; fin_cases a; simp at this ⊢)

/-- The scale of `x` read is the only element. -/
theorem rdA_eq (f : AT Ideal) : rdA f = f (ix1 0) := congrArg f (one_idx _)
/-- The scale of `w` read is the only element. -/
theorem rdB_eq (f : BT Ideal) : rdB f = f (ix1 0) := congrArg f (one_idx _)

/-- The sum over the devices of their short products is one long product. -/
theorem sum_parts (x : Vec Ideal ⟨2, ![4096, 4096]⟩ .fp8e4m3) (w : Vec Ideal ⟨2, ![4096, 2048]⟩ .fp8e5m2)
    (X : Dev nD → XT Ideal) (Y : Dev nD → WT Ideal)
    (hX : ∀ c, X c = Layout.block ⟨2, ![4096, 256]⟩ ⟨2, ![4096, 4096]⟩ 1 16 c x)
    (hY : ∀ c, Y c = Layout.block ⟨2, ![256, 2048]⟩ ⟨2, ![4096, 2048]⟩ 0 16 c w)
    (g : Dev nD) (i : Fin 256) (l : Fin 2048) :
    ∑ d : Dev nD, part X Y d g i l = ∑ k : Fin 4096, (x (ix2 (rowOf g i) k) * w (ix2 k l) : EReal) := by
  unfold part
  refine Fin.sum_mul_add_congr (S := 16) (n := 256) fun d k hl => ?_
  unfold xAt wAt
  rw [hX, hY]
  refine congrArg₂ (fun a b : EReal => a * b) (congrArg x ?_) (congrArg w ?_) <;>
  · funext a; fin_cases a <;> rfl

/-- Device `c`'s result is its block of the reference's. -/
theorem res_block (x : Vec Ideal ⟨2, ![4096, 4096]⟩ .fp8e4m3) (w : Vec Ideal ⟨2, ![4096, 2048]⟩ .fp8e5m2) (a b : Vec Ideal S1 .f32)
    (hx : ∀ c : Dev nD, m ((c : Thread nD τ).loc main_arg0) = Layout.block ⟨2, ![4096, 256]⟩ ⟨2, ![4096, 4096]⟩ 1 16 c x)
    (hw : ∀ c : Dev nD, m ((c : Thread nD τ).loc main_arg1) = Layout.block ⟨2, ![256, 2048]⟩ ⟨2, ![4096, 2048]⟩ 0 16 c w)
    (ha : ∀ c : Dev nD, m ((c : Thread nD τ).loc main_arg2) = a) (hb : ∀ c : Dev nD, m ((c : Thread nD τ).loc main_arg3) = b) (c : Dev nD) :
    resAt m c = Layout.block ⟨2, ![256, 2048]⟩ ⟨2, ![4096, 2048]⟩ 0 16 c (Cert.ReferenceIdeal.Whole.whole x w a b) := by
  funext y
  obtain ⟨i, l, rfl⟩ : ∃ (i : Fin 256) (l : Fin 2048), y = ix2 i l := ⟨y 0, y 1, by funext a; fin_cases a <;> rfl⟩
  have hz : zOf c (aIn m) (bIn m) = ((a (ix1 0) : EReal) * (b (ix1 0) : EReal) : EReal) := by
    unfold zOf
    rw [rdA_eq, rdB_eq, aIn_eq, bIn_eq, ha, hb]
    rfl
  have hlane : lane (strmOf (ix2 i l)) ⟨l.val % 512, Nat.mod_lt _ (by decide)⟩ = l := Fin.ext (by
    show l.val / 512 * 512 + l.val % 512 = l.val; omega)
  have hcol : colOf (ix2 i l) = ix2 i ⟨l.val % 512, Nat.mod_lt _ (by decide)⟩ := by
    funext a; fin_cases a <;> rfl
  unfold resAt outAt
  rw [hcol, hz, res_apply, sum_parts x w (xIn m) (wIn m) (fun d => (xIn_eq m d).trans (hx d)) (fun d => (wIn_eq m d).trans (hw d))]
  have hy : (show Layout.Tiles ⟨2, ![256, 2048]⟩ ⟨2, ![4096, 2048]⟩ 0 16 by decide).idx c (ix2 i l) = ix2 (rowOf c i) l := by
    funext a; fin_cases a <;> rfl
  rw [hlane, Layout.block_apply, hy]
  rfl

end Cert.KernelIdeal.Ring

namespace Cert.Proof

open Idealize.ShloMosaic Idealize.ShloMosaic.TcCoe Idealize.SL.Sem

/-- Over the reals device `c` of the kernel ends with block `c` of the reference's rows. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨Cert.ReferenceIdeal.Whole.whole
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  rotate_left
  · exact (θ_run _ _ _).mono (fun r h => ⟨(h 0).1.trans (Cert.ReferenceIdeal.Whole.final m' 0), (h 0).2⟩)
      (Cert.ReferenceIdeal.Value.run_blocks (F := Ideal) m' g')
  · exact (θ_run _ _ _).mono (fun r h c => ⟨(h c).1.trans (Cert.KernelIdeal.Ring.res_block m _ _ _ _ (fun d => (hin d).1)
      (fun d => (hin d).2.1) (fun d => (hin d).2.2.1) (fun d => (hin d).2.2.2) c), (h c).2⟩)
      (Cert.KernelIdeal.Ring.run_value (F := Ideal) m g)

end Cert.Proof

end
-- ==== Proof.lean ====
/-
# The certificate

The kernel and its reading over the reals run to the end on the sixteen devices and return every semaphore to zero; over
the reals they compute the reference.
-/
module

public import proofs.«01_k».proof.Defs
public import proofs.«01_k».proof.Proof.K.Final
public import proofs.«01_k».proof.Proof.Alg

@[expose] public section

noncomputable section

namespace Cert.Proof

/-- Everything claimed. -/
theorem claim : Cert.Claim :=
  ⟨Cert.Kernel.Gen.facts, Cert.KernelIdeal.Gen.facts, Cert.ReferenceIdeal.Gen.facts,
    fun m g _ => Cert.Kernel.Ring.quiescent (F := Idealize.ShloMosaic.Bits) m g,
    fun m g _ => Cert.KernelIdeal.Ring.quiescent (F := Idealize.ShloMosaic.Ideal) m g,
    fun m g _ => Cert.ReferenceIdeal.Gen.frame (F := Idealize.ShloMosaic.Ideal) m g,
    trivial, algebraic⟩

end Cert.Proof

end
